-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_causal_and_finite [hPre_causal_and_finite : Cert.Pre_causal_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_causal_and_finite [hPre_causal_and_finite : Cert.Pre_causal_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_causal_and_finite [hKernelIdeal : Cert.KernelIdeal.Facts] [hPre_causal_and_finite : Cert.Pre_causal_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_causal_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_causal_and_finite [hReferenceIdeal : Cert.ReferenceIdeal.Facts] [hPre_causal_and_finite : Cert.Pre_causal_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_causal_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "scale" .f32 0x3DD53B95#32 (((Real.sqrt 192)⁻¹ * (Real.log 2)⁻¹ : ℝ) : EReal)
  ∧ IdealRules.named_const.Statement Cert.KernelIdeal.κ "masked" .f32 0xF149F2CA#32 ⊥

def algebraic_KernelIdeal_ReferenceIdeal_pre_causal_and_finite [hKernelIdeal : Cert.KernelIdeal.Facts] [hReferenceIdeal : Cert.ReferenceIdeal.Facts] [hPre_causal_and_finite : Cert.Pre_causal_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_causal_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_causal_and_finite : Cert.Pre_causal_and_finite.Facts),
    quiescent_Kernel (hKernel := hKernel)
    ∧ quiescent_KernelIdeal (hKernelIdeal := hKernelIdeal)
    ∧ quiescent_KernelIdeal_pre_causal_and_finite (hKernelIdeal := hKernelIdeal) (hPre_causal_and_finite := hPre_causal_and_finite)
    ∧ quiescent_ReferenceIdeal (hReferenceIdeal := hReferenceIdeal)
    ∧ quiescent_ReferenceIdeal_pre_causal_and_finite (hReferenceIdeal := hReferenceIdeal) (hPre_causal_and_finite := hPre_causal_and_finite)
    ∧ preserves_Kernel_KernelIdeal
    ∧ algebraic_KernelIdeal_ReferenceIdeal_pre_causal_and_finite (hKernelIdeal := hKernelIdeal) (hReferenceIdeal := hReferenceIdeal) (hPre_causal_and_finite := hPre_causal_and_finite)
-- ==== Pre_causal_and_finite.lean ====
abbrev S1x2048x2048 : Shape := ⟨3, ![1, 2048, 2048]⟩
abbrev S2048x32 : Shape := ⟨2, ![2048, 32]⟩
abbrev S2048x2048 : Shape := ⟨2, ![2048, 2048]⟩
abbrev S1536x2048 : Shape := ⟨2, ![1536, 2048]⟩
abbrev S1536 : Shape := ⟨1, ![1536]⟩
abbrev S3072x1536 : Shape := ⟨2, ![3072, 1536]⟩
abbrev S576x2048 : Shape := ⟨2, ![576, 2048]⟩
abbrev S512 : Shape := ⟨1, ![512]⟩
abbrev S4096x512 : Shape := ⟨2, ![4096, 512]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S2048x32 : S_.BroadcastsInDim S2048x32 (![] : Fin 0 → Fin S2048x32.rank)
  reducesTo_S2048x32_S_d0_1 : S2048x32.ReducesTo [0, 1] S_
  bcast_S_S1536 : S_.BroadcastsInDim S1536 (![] : Fin 0 → Fin S1536.rank)
  reducesTo_S1536_S_d0 : S1536.ReducesTo [0] S_
  bcast_S_S3072x1536 : S_.BroadcastsInDim S3072x1536 (![] : Fin 0 → Fin S3072x1536.rank)
  reducesTo_S3072x1536_S_d0_1 : S3072x1536.ReducesTo [0, 1] S_
  bcast_S_S576x2048 : S_.BroadcastsInDim S576x2048 (![] : Fin 0 → Fin S576x2048.rank)
  reducesTo_S576x2048_S_d0_1 : S576x2048.ReducesTo [0, 1] S_
  bcast_S_S512 : S_.BroadcastsInDim S512 (![] : Fin 0 → Fin S512.rank)
  reducesTo_S512_S_d0 : S512.ReducesTo [0] S_
  bcast_S_S4096x512 : S_.BroadcastsInDim S4096x512 (![] : Fin 0 → Fin S4096x512.rank)
  reducesTo_S4096x512_S_d0_1 : S4096x512.ReducesTo [0, 1] S_

variable [Facts]

def fn_where {F : FTy → Type} [FloatOps F] (arg0 : IVec S2048x2048 1) (arg1 : IVec S2048x2048 1) (arg2 : IVec S2048x2048 1) : IVec S2048x2048 1 :=
  let v0 : IVec S2048x2048 1 := select arg0 arg1 arg2
  v0

def fn_part2 {F : FTy → Type} [FloatOps F] (main_arg8 : FVec F S512 .f32) (main_arg9 : FVec F S4096x512 .f32) (main_v33 : IVec S_ 1) (main_v34 : FVec F S576x2048 .f32) : IVec S_ 1 :=
  let main_cst_11 : FVec F S_ .f32 := constant S_ .f32 0x7F800000#32
  let main_v35 : FVec F S576x2048 .f32 := broadcastInDim S576x2048 ![] bcast_S_S576x2048 main_cst_11
  let main_v36 : IVec S576x2048 1 := cmpf .olt main_v34 main_v35
  let main_c_12 : IVec S_ 1 := constantI S_ 1 1#1
  let main_v37 : IVec S_ 1 := (fun x v => Host.reduce IntOp.andi x v reducesTo_S576x2048_S_d0_1 h_S_) main_v36 main_c_12
  let main_v38 : IVec S_ 1 := andi main_v33 main_v37
  let main_v39 : FVec F S512 .f32 := Host.absf main_arg8
  let main_cst_13 : FVec F S_ .f32 := constant S_ .f32 0x7F800000#32
  let main_v40 : FVec F S512 .f32 := broadcastInDim S512 ![] bcast_S_S512 main_cst_13
  let main_v41 : IVec S512 1 := cmpf .olt main_v39 main_v40
  let main_c_14 : IVec S_ 1 := constantI S_ 1 1#1
  let main_v42 : IVec S_ 1 := (fun x v => Host.reduce IntOp.andi x v reducesTo_S512_S_d0 h_S_) main_v41 main_c_14
  let main_v43 : IVec S_ 1 := andi main_v38 main_v42
  let main_v44 : FVec F S4096x512 .f32 := Host.absf main_arg9
  let main_cst_15 : FVec F S_ .f32 := constant S_ .f32 0x7F800000#32
  let main_v45 : FVec F S4096x512 .f32 := broadcastInDim S4096x512 ![] bcast_S_S4096x512 main_cst_15
  let main_v46 : IVec S4096x512 1 := cmpf .olt main_v44 main_v45
  let main_c_16 : IVec S_ 1 := constantI S_ 1 1#1
  let main_v47 : IVec S_ 1 := (fun x v => Host.reduce IntOp.andi x v reducesTo_S4096x512_S_d0_1 h_S_) main_v46 main_c_16
  let main_v48 : IVec S_ 1 := andi main_v43 main_v47
  main_v48

def fn_part1 {F : FTy → Type} [FloatOps F] (main_arg2 : FVec F S2048x32 .f32) (main_arg5 : FVec F S1536 .f32) (main_arg6 : FVec F S3072x1536 .f32) (main_arg7 : FVec F S576x2048 .f32) (main_arg8 : FVec F S512 .f32) (main_arg9 : FVec F S4096x512 .f32) (main_v8 : IVec S_ 1) (main_v12 : IVec S_ 1) (main_v16 : IVec S_ 1) : IVec S_ 1 :=
  let main_v17 : IVec S_ 1 := andi main_v12 main_v16
  let main_v18 : FVec F S2048x32 .f32 := Host.absf main_arg2
  let main_cst_5 : FVec F S_ .f32 := constant S_ .f32 0x7F800000#32
  let main_v19 : FVec F S2048x32 .f32 := broadcastInDim S2048x32 ![] bcast_S_S2048x32 main_cst_5
  let main_v20 : IVec S2048x32 1 := cmpf .olt main_v18 main_v19
  let main_c_6 : IVec S_ 1 := constantI S_ 1 1#1
  let main_v21 : IVec S_ 1 := (fun x v => Host.reduce IntOp.andi x v reducesTo_S2048x32_S_d0_1 h_S_) main_v20 main_c_6
  let main_v22 : IVec S_ 1 := andi main_v17 main_v21
  let main_v23 : IVec S_ 1 := andi main_v22 main_v8
  let main_v24 : FVec F S1536 .f32 := Host.absf main_arg5
  let main_cst_7 : FVec F S_ .f32 := constant S_ .f32 0x7F800000#32
  let main_v25 : FVec F S1536 .f32 := broadcastInDim S1536 ![] bcast_S_S1536 main_cst_7
  let main_v26 : IVec S1536 1 := cmpf .olt main_v24 main_v25
  let main_c_8 : IVec S_ 1 := constantI S_ 1 1#1
  let main_v27 : IVec S_ 1 := (fun x v => Host.reduce IntOp.andi x v reducesTo_S1536_S_d0 h_S_) main_v26 main_c_8
  let main_v28 : IVec S_ 1 := andi main_v23 main_v27
  let main_v29 : FVec F S3072x1536 .f32 := Host.absf main_arg6
  let main_cst_9 : FVec F S_ .f32 := constant S_ .f32 0x7F800000#32
  let main_v30 : FVec F S3072x1536 .f32 := broadcastInDim S3072x1536 ![] bcast_S_S3072x1536 main_cst_9
  let main_v31 : IVec S3072x1536 1 := cmpf .olt main_v29 main_v30
  let main_c_10 : IVec S_ 1 := constantI S_ 1 1#1
  let main_v32 : IVec S_ 1 := (fun x v => Host.reduce IntOp.andi x v reducesTo_S3072x1536_S_d0_1 h_S_) main_v31 main_c_10
  let main_v33 : IVec S_ 1 := andi main_v28 main_v32
  let main_v34 : FVec F S576x2048 .f32 := Host.absf main_arg7
  fn_part2 (F := F) main_arg8 main_arg9 main_v33 main_v34

def fn {F : FTy → Type} [FloatOps F] (main_arg0 : FVec F S1x2048x2048 .f32) (main_arg1 : FVec F S2048x32 .f32) (main_arg2 : FVec F S2048x32 .f32) (main_arg3 : FVec F S2048x2048 .f32) (main_arg4 : FVec F S1536x2048 .f32) (main_arg5 : FVec F S1536 .f32) (main_arg6 : FVec F S3072x1536 .f32) (main_arg7 : FVec F S576x2048 .f32) (main_arg8 : FVec F S512 .f32) (main_arg9 : FVec F S4096x512 .f32) (main_arg10 : FVec F S2048x2048 .f32) : IVec S_ 1 :=
  let main_v0 : IVec S2048x2048 32 := iotaInDim S2048x2048 32 0
  let main_v1 : IVec S2048x2048 32 := iotaInDim S2048x2048 32 1
  let main_v2 : IVec S2048x2048 1 := cmpi .sle main_v1 main_v0
  let main_cst : FVec F S_ .f32 := constant S_ .f32 0x00000000#32
  let main_v3 : FVec F S2048x2048 .f32 := broadcastInDim S2048x2048 ![] bcast_S_S2048x2048 main_cst
  let main_v4 : IVec S2048x2048 1 := cmpf .oeq main_arg3 main_v3
  let main_cst_0 : FVec F S_ .f32 := constant S_ .f32 0xCE6E6B28#32
  let main_v5 : FVec F S2048x2048 .f32 := broadcastInDim S2048x2048 ![] bcast_S_S2048x2048 main_cst_0
  let main_v6 : IVec S2048x2048 1 := cmpf .ole main_arg3 main_v5
  let main_v7 : IVec S2048x2048 1 := fn_where (F := F) main_v2 main_v4 main_v6
  let main_c : IVec S_ 1 := constantI S_ 1 1#1
  let main_v8 : IVec S_ 1 := (fun x v => Host.reduce IntOp.andi x v reducesTo_S2048x2048_S_d0_1 h_S_) main_v7 main_c
  let main_v9 : FVec F S1x2048x2048 .f32 := Host.absf main_arg0
  let main_cst_1 : FVec F S_ .f32 := constant S_ .f32 0x7F800000#32
  let main_v10 : FVec F S1x2048x2048 .f32 := broadcastInDim S1x2048x2048 ![] bcast_S_S1x2048x2048 main_cst_1
  let main_v11 : IVec S1x2048x2048 1 := cmpf .olt main_v9 main_v10
  let main_c_2 : IVec S_ 1 := constantI S_ 1 1#1
  let main_v12 : IVec S_ 1 := (fun x v => Host.reduce IntOp.andi x v reducesTo_S1x2048x2048_S_d0_1_2 h_S_) main_v11 main_c_2
  let main_v13 : FVec F S2048x32 .f32 := Host.absf main_arg1
  let main_cst_3 : FVec F S_ .f32 := constant S_ .f32 0x7F800000#32
  let main_v14 : FVec F S2048x32 .f32 := broadcastInDim S2048x32 ![] bcast_S_S2048x32 main_cst_3
  let main_v15 : IVec S2048x32 1 := cmpf .olt main_v13 main_v14
  let main_c_4 : IVec S_ 1 := constantI S_ 1 1#1
  let main_v16 : IVec S_ 1 := (fun x v => Host.reduce IntOp.andi x v reducesTo_S2048x32_S_d0_1 h_S_) main_v15 main_c_4
  fn_part1 (F := F) main_arg2 main_arg5 main_arg6 main_arg7 main_arg8 main_arg9 main_v8 main_v12 main_v16
-- ==== Kernel.lean ====
abbrev S1x2048x2048 : Shape := ⟨3, ![1, 2048, 2048]⟩
abbrev S2048x32 : Shape := ⟨2, ![2048, 32]⟩
abbrev S2048x2048 : Shape := ⟨2, ![2048, 2048]⟩
abbrev S1536x2048 : Shape := ⟨2, ![1536, 2048]⟩
abbrev S1536 : Shape := ⟨1, ![1536]⟩
abbrev S3072x1536 : Shape := ⟨2, ![3072, 1536]⟩
abbrev S576x2048 : Shape := ⟨2, ![576, 2048]⟩
abbrev S512 : Shape := ⟨1, ![512]⟩
abbrev S4096x512 : Shape := ⟨2, ![4096, 512]⟩
abbrev S2 : Shape := ⟨1, ![2]⟩
abbrev S2048x32x2 : Shape := ⟨3, ![2048, 32, 2]⟩
abbrev S2048x64 : Shape := ⟨2, ![2048, 64]⟩
abbrev S1x2 : Shape := ⟨2, ![1, 2]⟩
abbrev S32x2 : Shape := ⟨2, ![32, 2]⟩
abbrev S64 : Shape := ⟨1, ![64]⟩
abbrev S1x64 : Shape := ⟨2, ![1, 64]⟩
abbrev S_ : Shape := ⟨0, ![]⟩
abbrev S2048x128 : Shape := ⟨2, ![2048, 128]⟩
abbrev S2048x256 : Shape := ⟨2, ![2048, 256]⟩
abbrev S1x2048x1x256 : Shape := ⟨4, ![1, 2048, 1, 256]⟩
abbrev S1x2048x16x256 : Shape := ⟨4, ![1, 2048, 16, 256]⟩
abbrev S2048x4096 : Shape := ⟨2, ![2048, 4096]⟩
abbrev S2048x512 : Shape := ⟨2, ![2048, 512]⟩
abbrev S2048x576 : Shape := ⟨2, ![2048, 576]⟩
abbrev S16x192x1536 : Shape := ⟨3, ![16, 192, 1536]⟩
abbrev S16x64x1536 : Shape := ⟨3, ![16, 64, 1536]⟩
abbrev S16x256x1536 : Shape := ⟨3, ![16, 256, 1536]⟩
abbrev S4096x1536 : Shape := ⟨2, ![4096, 1536]⟩
abbrev S16x256x512 : Shape := ⟨3, ![16, 256, 512]⟩
abbrev S16x128x512 : Shape := ⟨3, ![16, 128, 512]⟩
abbrev S1x1536 : Shape := ⟨2, ![1, 1536]⟩
abbrev S2048x1536 : Shape := ⟨2, ![2048, 1536]⟩
abbrev S256x2048 : Shape := ⟨2, ![256, 2048]⟩
abbrev S256x1536 : Shape := ⟨2, ![256, 1536]⟩
abbrev S256 : Shape := ⟨1, ![256]⟩
abbrev S256x1 : Shape := ⟨2, ![256, 1]⟩
abbrev S256x4096 : Shape := ⟨2, ![256, 4096]⟩
abbrev S256x4095 : Shape := ⟨2, ![256, 4095]⟩
abbrev S1x512 : Shape := ⟨2, ![1, 512]⟩
abbrev S256x576 : Shape := ⟨2, ![256, 576]⟩
abbrev S256x575 : Shape := ⟨2, ![256, 575]⟩
abbrev S256x64 : Shape := ⟨2, ![256, 64]⟩
abbrev S256x128 : Shape := ⟨2, ![256, 128]⟩
abbrev S256x512 : Shape := ⟨2, ![256, 512]⟩
abbrev S256x256 : Shape := ⟨2, ![256, 256]⟩
abbrev S512x256 : Shape := ⟨2, ![512, 256]⟩
abbrev S512x128 : Shape := ⟨2, ![512, 128]⟩

abbrev nBuf : Space → Nat
  | .hbm => 75
  | .vmem => 41
  | .smem => 0
  | _ => 0

abbrev bufTy : (tb : Table) → Fin (tcTables nBuf tb) → BufTy
  | .hbm, ⟨0, _⟩ => ⟨S1x2048x2048, .f32⟩
  | .hbm, ⟨1, _⟩ => ⟨S2048x32, .f32⟩
  | .hbm, ⟨2, _⟩ => ⟨S2048x32, .f32⟩
  | .hbm, ⟨3, _⟩ => ⟨S2048x2048, .f32⟩
  | .hbm, ⟨4, _⟩ => ⟨S1536x2048, .f32⟩
  | .hbm, ⟨5, _⟩ => ⟨S1536, .f32⟩
  | .hbm, ⟨6, _⟩ => ⟨S3072x1536, .f32⟩
  | .hbm, ⟨7, _⟩ => ⟨S576x2048, .f32⟩
  | .hbm, ⟨8, _⟩ => ⟨S512, .f32⟩
  | .hbm, ⟨9, _⟩ => ⟨S4096x512, .f32⟩
  | .hbm, ⟨10, _⟩ => ⟨S2048x2048, .f32⟩
  | .hbm, ⟨11, _⟩ => ⟨S2, .f32⟩
  | .hbm, ⟨12, _⟩ => ⟨S2048x2048, .f32⟩
  | .hbm, ⟨13, _⟩ => ⟨S2048x2048, .bf16⟩
  | .hbm, ⟨14, _⟩ => ⟨S2048x32x2, .f32⟩
  | .hbm, ⟨15, _⟩ => ⟨S2048x64, .f32⟩
  | .hbm, ⟨16, _⟩ => ⟨S2048x32x2, .f32⟩
  | .hbm, ⟨17, _⟩ => ⟨S2048x64, .f32⟩
  | .hbm, ⟨18, _⟩ => ⟨S1x2, .f32⟩
  | .hbm, ⟨19, _⟩ => ⟨S32x2, .f32⟩
  | .hbm, ⟨20, _⟩ => ⟨S64, .f32⟩
  | .hbm, ⟨21, _⟩ => ⟨S1x64, .f32⟩
  | .hbm, ⟨22, _⟩ => ⟨S2048x64, .f32⟩
  | .hbm, ⟨23, _⟩ => ⟨S2048x64, .f32⟩
  | .hbm, ⟨24, _⟩ => ⟨S_, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S_, .f32⟩
  | .hbm, ⟨29, _⟩ => ⟨S2048x64, .f32⟩
  | .hbm, ⟨30, _⟩ => ⟨S_, .f32⟩
  | .hbm, ⟨31, _⟩ => ⟨S2048x64, .f32⟩
  | .hbm, ⟨32, _⟩ => ⟨S2048x256, .f32⟩
  | .hbm, ⟨33, _⟩ => ⟨S1x2048x1x256, .f32⟩
  | .hbm, ⟨34, _⟩ => ⟨S1x2048x16x256, .f32⟩
  | .hbm, ⟨35, _⟩ => ⟨S2048x4096, .f32⟩
  | .hbm, ⟨36, _⟩ => ⟨S2048x4096, .bf16⟩
  | .hbm, ⟨37, _⟩ => ⟨S2048x256, .f32⟩
  | .hbm, ⟨38, _⟩ => ⟨S1x2048x1x256, .f32⟩
  | .hbm, ⟨39, _⟩ => ⟨S1x2048x16x256, .f32⟩
  | .hbm, ⟨40, _⟩ => ⟨S2048x4096, .f32⟩
  | .hbm, ⟨41, _⟩ => ⟨S2048x4096, .bf16⟩
  | .hbm, ⟨42, _⟩ => ⟨S_, .f32⟩
  | .hbm, ⟨43, _⟩ => ⟨S2048x512, .f32⟩
  | .hbm, ⟨44, _⟩ => ⟨S2048x576, .f32⟩
  | .hbm, ⟨45, _⟩ => ⟨S2048x576, .bf16⟩
  | .hbm, ⟨46, _⟩ => ⟨S_, .f32⟩
  | .hbm, ⟨47, _⟩ => ⟨S2048x512, .f32⟩
  | .hbm, ⟨48, _⟩ => ⟨S2048x576, .f32⟩
  | .hbm, ⟨49, _⟩ => ⟨S2048x576, .bf16⟩
  | .hbm, ⟨50, _⟩ => ⟨S16x192x1536, .f32⟩
  | .hbm, ⟨51, _⟩ => ⟨S_, .f32⟩
  | .hbm, ⟨52, _⟩ => ⟨S16x64x1536, .f32⟩
  | .hbm, ⟨53, _⟩ => ⟨S16x256x1536, .f32⟩
  | .hbm, ⟨54, _⟩ => ⟨S4096x1536, .f32⟩
  | .hbm, ⟨55, _⟩ => ⟨S4096x1536, .bf16⟩
  | .hbm, ⟨56, _⟩ => ⟨S16x256x512, .f32⟩
  | .hbm, ⟨57, _⟩ => ⟨S16x128x512, .f32⟩
  | .hbm, ⟨58, _⟩ => ⟨S2048x512, .f32⟩
  | .hbm, ⟨59, _⟩ => ⟨S16x128x512, .f32⟩
  | .hbm, ⟨60, _⟩ => ⟨S2048x512, .f32⟩
  | .hbm, ⟨61, _⟩ => ⟨S4096x512, .f32⟩
  | .hbm, ⟨62, _⟩ => ⟨S4096x512, .bf16⟩
  | .hbm, ⟨63, _⟩ => ⟨S1536x2048, .bf16⟩
  | .hbm, ⟨64, _⟩ => ⟨S1x1536, .f32⟩
  | .hbm, ⟨65, _⟩ => ⟨S2048x1536, .bf16⟩
  | .hbm, ⟨66, _⟩ => ⟨S2048x4096, .bf16⟩
  | .hbm, ⟨67, _⟩ => ⟨S576x2048, .bf16⟩
  | .hbm, ⟨68, _⟩ => ⟨S1x512, .f32⟩
  | .hbm, ⟨69, _⟩ => ⟨S2048x4096, .bf16⟩
  | .hbm, ⟨70, _⟩ => ⟨S2048x2048, .bf16⟩
  | .hbm, ⟨71, _⟩ => ⟨S2048x2048, .bf16⟩
  | .hbm, ⟨72, _⟩ => ⟨S2048x2048, .bf16⟩
  | .hbm, ⟨73, _⟩ => ⟨S2048x2048, .f32⟩
  | .hbm, ⟨74, _⟩ => ⟨S1x2048x2048, .f32⟩
  | .local _ .vmem, ⟨0, _⟩ => ⟨S256x2048, .bf16⟩
  | .local _ .vmem, ⟨1, _⟩ => ⟨S256x2048, .bf16⟩
  | .local _ .vmem, ⟨2, _⟩ => ⟨S1536x2048, .bf16⟩
  | .local _ .vmem, ⟨3, _⟩ => ⟨S1x1536, .f32⟩
  | .local _ .vmem, ⟨4, _⟩ => ⟨S256x1536, .bf16⟩
  | .local _ .vmem, ⟨5, _⟩ => ⟨S256x1536, .bf16⟩
  | .local _ .vmem, ⟨6, _⟩ => ⟨S256x1536, .bf16⟩
  | .local _ .vmem, ⟨7, _⟩ => ⟨S256x1536, .bf16⟩
  | .local _ .vmem, ⟨8, _⟩ => ⟨S4096x1536, .bf16⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x2048, .bf16⟩
  | .local _ .vmem, ⟨16, _⟩ => ⟨S256x2048, .bf16⟩
  | .local _ .vmem, ⟨17, _⟩ => ⟨S576x2048, .bf16⟩
  | .local _ .vmem, ⟨18, _⟩ => ⟨S1x512, .f32⟩
  | .local _ .vmem, ⟨19, _⟩ => ⟨S4096x512, .bf16⟩
  | .local _ .vmem, ⟨20, _⟩ => ⟨S256x576, .bf16⟩
  | .local _ .vmem, ⟨21, _⟩ => ⟨S256x576, .bf16⟩
  | .local _ .vmem, ⟨22, _⟩ => ⟨S256x576, .bf16⟩
  | .local _ .vmem, ⟨23, _⟩ => ⟨S256x576, .bf16⟩
  | .local _ .vmem, ⟨24, _⟩ => ⟨S256x4096, .bf16⟩
  | .local _ .vmem, ⟨25, _⟩ => ⟨S256x4096, .bf16⟩
  | .local _ .vmem, ⟨26, _⟩ => ⟨S256x2048, .bf16⟩
  | .local _ .vmem, ⟨27, _⟩ => ⟨S256x2048, .bf16⟩
  | .local _ .vmem, ⟨28, _⟩ => ⟨S256x256, .bf16⟩
  | .local _ .vmem, ⟨29, _⟩ => ⟨S256x256, .bf16⟩
  | .local _ .vmem, ⟨30, _⟩ => ⟨S2048x256, .bf16⟩
  | .local _ .vmem, ⟨31, _⟩ => ⟨S2048x256, .bf16⟩
  | .local _ .vmem, ⟨32, _⟩ => ⟨S2048x128, .bf16⟩
  | .local _ .vmem, ⟨33, _⟩ => ⟨S2048x128, .bf16⟩
  | .local _ .vmem, ⟨34, _⟩ => ⟨S256x128, .bf16⟩
  | .local _ .vmem, ⟨35, _⟩ => ⟨S256x128, .bf16⟩
  | .local _ .vmem, ⟨36, _⟩ => ⟨S256x2048, .bf16⟩
  | .local _ .vmem, ⟨37, _⟩ => ⟨S256x2048, .bf16⟩
  | .local _ .vmem, ⟨38, _⟩ => ⟨S2048x2048, .bf16⟩
  | .local _ .vmem, ⟨39, _⟩ => ⟨S256x2048, .f32⟩
  | .local _ .vmem, ⟨40, _⟩ => ⟨S256x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50_0 : Ref sig .tc := ⟨.hbm, 69, rfl⟩
abbrev main_v50_1 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1536 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S576x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x576 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x576 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x4096 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x2048 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨2, ![16, 8], ![false, false]⟩

@[reducible] def k3_t1_loop (i : grid3.Coords) : Scf.Loop 32 :=
  let c0_i32_8 : BitVec 32 := 0#32
  let arg1 : BitVec 32 := BitVec.ofNat 32 (i 1).val
  let c256_i32 : BitVec 32 := 256#32
  let v2 : BitVec 32 := Scalar.muli arg1 c256_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_7 : BitVec 32 := 1#32
  let v23 : BitVec 32 := Scalar.subi v20 c1_i32_7
  let v24 : BitVec 32 := Scalar.subi v23 c0_i32_8
  let c1_i32_9 : BitVec 32 := 1#32
  let v26 : BitVec 32 := Scalar.divsi v24 c1_i32_9
  let v27 : BitVec 32 := Scalar.muli v26 c1_i32_9
  let v28 : BitVec 32 := Scalar.addi c0_i32_8 v27
  let c1_i32_10 : BitVec 32 := 1#32
  ⟨c0_i32_8, v28, c1_i32_10⟩
def k3_off1 (i : grid3.Coords) (k3_t1 : Fin (k3_t1_loop i).trips) : Fin 2 → Nat :=
  let c0_i32_8 : BitVec 32 := 0#32
  let c1_i32_10 : BitVec 32 := 1#32
  let arg6 : BitVec 32 := Scf.iv c0_i32_8 c1_i32_10 k3_t1
  let c512_i32_25 : BitVec 32 := 512#32
  let v63 : BitVec 32 := Scalar.muli arg6 c512_i32_25
  let v64 : Index := Scalar.indexCast v63
  let c0_26 : Index := 0#32
  ![v64.toNat, 0]
def k3_off2 (i : grid3.Coords) (k3_t1 : Fin (k3_t1_loop i).trips) : Fin 2 → Nat :=
  let c0_i32_8 : BitVec 32 := 0#32
  let c1_i32_10 : BitVec 32 := 1#32
  let arg6 : BitVec 32 := Scf.iv c0_i32_8 c1_i32_10 k3_t1
  let c512_i32_29 : BitVec 32 := 512#32
  let v73 : BitVec 32 := Scalar.muli arg6 c512_i32_29
  let v74 : Index := Scalar.indexCast v73
  let c0_30 : Index := 0#32
  ![v74.toNat, 0]
@[reducible] def k3_t2_loop (i : grid3.Coords) : Scf.Loop 32 :=
  let c0_i32_8 : BitVec 32 := 0#32
  let arg1 : BitVec 32 := BitVec.ofNat 32 (i 1).val
  let c256_i32 : BitVec 32 := 256#32
  let v2 : BitVec 32 := Scalar.muli arg1 c256_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_7 : BitVec 32 := 1#32
  let v23 : BitVec 32 := Scalar.subi v20 c1_i32_7
  let v24 : BitVec 32 := Scalar.subi v23 c0_i32_8
  let c1_i32_9 : BitVec 32 := 1#32
  let v26 : BitVec 32 := Scalar.divsi v24 c1_i32_9
  let v27 : BitVec 32 := Scalar.muli v26 c1_i32_9
  let v28 : BitVec 32 := Scalar.addi c0_i32_8 v27
  let v25 : BitVec 32 := Scalar.addi c0_i32_8 v24
  let c1_i32_11 : BitVec 32 := 1#32
  ⟨v28, v25, c1_i32_11⟩
def k3_off3 (i : grid3.Coords) (k3_t2 : Fin (k3_t2_loop i).trips) : Fin 2 → Nat :=
  let c0_i32_8 : BitVec 32 := 0#32
  let arg1 : BitVec 32 := BitVec.ofNat 32 (i 1).val
  let c256_i32 : BitVec 32 := 256#32
  let v2 : BitVec 32 := Scalar.muli arg1 c256_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_7 : BitVec 32 := 1#32
  let v23 : BitVec 32 := Scalar.subi v20 c1_i32_7
  let v24 : BitVec 32 := Scalar.subi v23 c0_i32_8
  let c1_i32_9 : BitVec 32 := 1#32
  let v26 : BitVec 32 := Scalar.divsi v24 c1_i32_9
  let v27 : BitVec 32 := Scalar.muli v26 c1_i32_9
  let v28 : BitVec 32 := Scalar.addi c0_i32_8 v27
  let c1_i32_11 : BitVec 32 := 1#32
  let arg6 : BitVec 32 := Scf.iv v28 c1_i32_11 k3_t2
  let c512_i32_25 : BitVec 32 := 512#32
  let v63 : BitVec 32 := Scalar.muli arg6 c512_i32_25
  let v64 : Index := Scalar.indexCast v63
  let c0_26 : Index := 0#32
  ![v64.toNat, 0]
def k3_off4 (i : grid3.Coords) (k3_t2 : Fin (k3_t2_loop i).trips) : Fin 2 → Nat :=
  let c0_i32_8 : BitVec 32 := 0#32
  let arg1 : BitVec 32 := BitVec.ofNat 32 (i 1).val
  let c256_i32 : BitVec 32 := 256#32
  let v2 : BitVec 32 := Scalar.muli arg1 c256_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_7 : BitVec 32 := 1#32
  let v23 : BitVec 32 := Scalar.subi v20 c1_i32_7
  let v24 : BitVec 32 := Scalar.subi v23 c0_i32_8
  let c1_i32_9 : BitVec 32 := 1#32
  let v26 : BitVec 32 := Scalar.divsi v24 c1_i32_9
  let v27 : BitVec 32 := Scalar.muli v26 c1_i32_9
  let v28 : BitVec 32 := Scalar.addi c0_i32_8 v27
  let c1_i32_11 : BitVec 32 := 1#32
  let arg6 : BitVec 32 := Scf.iv v28 c1_i32_11 k3_t2
  let c512_i32_29 : BitVec 32 := 512#32
  let v73 : BitVec 32 := Scalar.muli arg6 c512_i32_29
  let v74 : Index := Scalar.indexCast v73
  let c0_30 : Index := 0#32
  ![v74.toNat, 0]
def k3_off5 (i : grid3.Coords) : Fin 2 → Nat :=
  let arg1 : BitVec 32 := BitVec.ofNat 32 (i 1).val
  let c256_i32 : BitVec 32 := 256#32
  let v2 : BitVec 32 := Scalar.muli arg1 c256_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_12 : BitVec 32 := 1#32
  let v31 : BitVec 32 := Scalar.subi v20 c1_i32_12
  let c512_i32_13 : BitVec 32 := 512#32
  let v32 : BitVec 32 := Scalar.muli v31 c512_i32_13
  let v33 : Index := Scalar.indexCast v32
  let c0_14 : Index := 0#32
  ![v33.toNat, 0]
def k3_off6 (i : grid3.Coords) : Fin 2 → Nat :=
  let arg1 : BitVec 32 := BitVec.ofNat 32 (i 1).val
  let c256_i32 : BitVec 32 := 256#32
  let v2 : BitVec 32 := Scalar.muli arg1 c256_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_12 : BitVec 32 := 1#32
  let v31 : BitVec 32 := Scalar.subi v20 c1_i32_12
  let c512_i32_20 : BitVec 32 := 512#32
  let v53 : BitVec 32 := Scalar.muli v31 c512_i32_20
  let v54 : Index := Scalar.indexCast v53
  let c0_21 : Index := 0#32
  ![v54.toNat, 0]
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S256x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S256x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== KernelIdeal.lean ====
variable {F : FTy → Type} [FloatOps F] [Named F]
def κ : String → Option EReal := fun
  | "masked" => some ⊥
  | "scale" => some (((Real.sqrt 192)⁻¹ * (Real.log 2)⁻¹ : ℝ) : EReal)
  | _ => none
-- ==== ReferenceIdeal.lean ====
abbrev S1x2048x2048 : Shape := ⟨3, ![1, 2048, 2048]⟩
abbrev S2048x32 : Shape := ⟨2, ![2048, 32]⟩
abbrev S2048x2048 : Shape := ⟨2, ![2048, 2048]⟩
abbrev S1536x2048 : Shape := ⟨2, ![1536, 2048]⟩
abbrev S1536 : Shape := ⟨1, ![1536]⟩
abbrev S3072x1536 : Shape := ⟨2, ![3072, 1536]⟩
abbrev S576x2048 : Shape := ⟨2, ![576, 2048]⟩
abbrev S512 : Shape := ⟨1, ![512]⟩
abbrev S4096x512 : Shape := ⟨2, ![4096, 512]⟩
abbrev S2048x1536 : Shape := ⟨2, ![2048, 1536]⟩
abbrev S1x2048x1536 : Shape := ⟨3, ![1, 2048, 1536]⟩
abbrev S_ : Shape := ⟨0, ![]⟩
abbrev S1x2048 : Shape := ⟨2, ![1, 2048]⟩
abbrev S1x2048x1 : Shape := ⟨3, ![1, 2048, 1]⟩
abbrev S1x1x1536 : Shape := ⟨3, ![1, 1, 1536]⟩
abbrev S1536x3072 : Shape := ⟨2, ![1536, 3072]⟩
abbrev S1x2048x3072 : Shape := ⟨3, ![1, 2048, 3072]⟩
abbrev S1x2048x16x192 : Shape := ⟨4, ![1, 2048, 16, 192]⟩
abbrev S1x2048x16x128 : Shape := ⟨4, ![1, 2048, 16, 128]⟩
abbrev S1x2048x16x64 : Shape := ⟨4, ![1, 2048, 16, 64]⟩
abbrev S1x2048x16x32x2 : Shape := ⟨5, ![1, 2048, 16, 32, 2]⟩
abbrev S1x2048x16x32x1 : Shape := ⟨5, ![1, 2048, 16, 32, 1]⟩
abbrev S1x2048x16x32 : Shape := ⟨4, ![1, 2048, 16, 32]⟩
abbrev S1x2048x1x32 : Shape := ⟨4, ![1, 2048, 1, 32]⟩
abbrev S2048x576 : Shape := ⟨2, ![2048, 576]⟩
abbrev S1x2048x576 : Shape := ⟨3, ![1, 2048, 576]⟩
abbrev S1x2048x512 : Shape := ⟨3, ![1, 2048, 512]⟩
abbrev S1x2048x64 : Shape := ⟨3, ![1, 2048, 64]⟩
abbrev S1x2048x1x64 : Shape := ⟨4, ![1, 2048, 1, 64]⟩
abbrev S1x2048x1x32x2 : Shape := ⟨5, ![1, 2048, 1, 32, 2]⟩
abbrev S1x2048x1x32x1 : Shape := ⟨5, ![1, 2048, 1, 32, 1]⟩
abbrev S1x1x512 : Shape := ⟨3, ![1, 1, 512]⟩
abbrev S512x4096 : Shape := ⟨2, ![512, 4096]⟩
abbrev S1x2048x4096 : Shape := ⟨3, ![1, 2048, 4096]⟩
abbrev S1x2048x16x256 : Shape := ⟨4, ![1, 2048, 16, 256]⟩
abbrev S1x16x2048x2048 : Shape := ⟨4, ![1, 16, 2048, 2048]⟩
abbrev S1x2048x16x2048 : Shape := ⟨4, ![1, 2048, 16, 2048]⟩
abbrev S1x2048x1x2048 : Shape := ⟨4, ![1, 2048, 1, 2048]⟩
abbrev S1x2048x16 : Shape := ⟨3, ![1, 2048, 16]⟩
abbrev S1x2048x16x1 : Shape := ⟨4, ![1, 2048, 16, 1]⟩
abbrev S1x16x128x2048 : Shape := ⟨4, ![1, 16, 128, 2048]⟩

abbrev nBuf : Space → Nat
  | .hbm => 139
  | .vmem => 0
  | .smem => 0
  | _ => 0

abbrev hbmTy0_0 (i : Nat) : BufTy := match i % 128 with
  | 0 => ⟨S1x2048x2048, .f32⟩
  | 1 => ⟨S2048x32, .f32⟩
  | 2 => ⟨S2048x32, .f32⟩
  | 3 => ⟨S2048x2048, .f32⟩
  | 4 => ⟨S1536x2048, .f32⟩
  | 5 => ⟨S1536, .f32⟩
  | 6 => ⟨S3072x1536, .f32⟩
  | 7 => ⟨S576x2048, .f32⟩
  | 8 => ⟨S512, .f32⟩
  | 9 => ⟨S4096x512, .f32⟩
  | 10 => ⟨S2048x2048, .f32⟩
  | 11 => ⟨S2048x1536, .f32⟩
  | 12 => ⟨S1x2048x1536, .f32⟩
  | 13 => ⟨S1x2048x1536, .f32⟩
  | 14 => ⟨S_, .f32⟩
  | 15 => ⟨S1x2048, .f32⟩
  | 16 => ⟨S1x2048x1, .f32⟩
  | 17 => ⟨S_, .f32⟩
  | 18 => ⟨S1x2048x1, .f32⟩
  | 19 => ⟨S1x2048x1, .f32⟩
  | 20 => ⟨S1x1x1536, .f32⟩
  | 21 => ⟨S1x2048x1536, .f32⟩
  | 22 => ⟨S1x2048x1536, .f32⟩
  | 23 => ⟨S_, .f32⟩
  | 24 => ⟨S1x2048x1, .f32⟩
  | 25 => ⟨S1x2048x1, .f32⟩
  | 26 => ⟨S1x2048x1, .f32⟩
  | 27 => ⟨S1x2048x1536, .f32⟩
  | 28 => ⟨S1x2048x1536, .f32⟩
  | 29 => ⟨S1536x3072, .f32⟩
  | 30 => ⟨S1x2048x3072, .f32⟩
  | 31 => ⟨S1x2048x16x192, .f32⟩
  | 32 => ⟨S1x2048x16x128, .f32⟩
  | 33 => ⟨S1x2048x16x64, .f32⟩
  | 34 => ⟨S1x2048x16x32x2, .f32⟩
  | 35 => ⟨S1x2048x16x32x1, .f32⟩
  | 36 => ⟨S1x2048x16x32, .f32⟩
  | 37 => ⟨S1x2048x16x32x1, .f32⟩
  | 38 => ⟨S1x2048x16x32, .f32⟩
  | 39 => ⟨S1x2048x1x32, .f32⟩
  | 40 => ⟨S1x2048x1x32, .f32⟩
  | 41 => ⟨S1x2048x16x32, .f32⟩
  | 42 => ⟨S1x2048x16x32, .f32⟩
  | 43 => ⟨S1x2048x16x32, .f32⟩
  | 44 => ⟨S1x2048x16x32, .f32⟩
  | 45 => ⟨S1x2048x16x32, .f32⟩
  | 46 => ⟨S1x2048x16x32, .f32⟩
  | 47 => ⟨S1x2048x16x32, .f32⟩
  | 48 => ⟨S1x2048x16x32, .f32⟩
  | 49 => ⟨S1x2048x16x32, .f32⟩
  | 50 => ⟨S1x2048x16x32, .f32⟩
  | 51 => ⟨S1x2048x16x32x1, .f32⟩
  | 52 => ⟨S1x2048x16x32x1, .f32⟩
  | 53 => ⟨S1x2048x16x32x2, .f32⟩
  | 54 => ⟨S1x2048x16x64, .f32⟩
  | 55 => ⟨S2048x576, .f32⟩
  | 56 => ⟨S1x2048x576, .f32⟩
  | 57 => ⟨S1x2048x512, .f32⟩
  | 58 => ⟨S1x2048x64, .f32⟩
  | 59 => ⟨S1x2048x1x64, .f32⟩
  | 60 => ⟨S1x2048x1x32x2, .f32⟩
  | 61 => ⟨S1x2048x1x32x1, .f32⟩
  | 62 => ⟨S1x2048x1x32, .f32⟩
  | 63 => ⟨S1x2048x1x32x1, .f32⟩
  | 64 => ⟨S1x2048x1x32, .f32⟩
  | 65 => ⟨S1x2048x1x32, .f32⟩
  | 66 => ⟨S1x2048x1x32, .f32⟩
  | 67 => ⟨S1x2048x1x32, .f32⟩
  | 68 => ⟨S1x2048x1x32, .f32⟩
  | 69 => ⟨S1x2048x1x32, .f32⟩
  | 70 => ⟨S1x2048x1x32, .f32⟩
  | 71 => ⟨S1x2048x1x32, .f32⟩
  | 72 => ⟨S1x2048x1x32, .f32⟩
  | 73 => ⟨S1x2048x1x32x1, .f32⟩
  | 74 => ⟨S1x2048x1x32x1, .f32⟩
  | 75 => ⟨S1x2048x1x32x2, .f32⟩
  | 76 => ⟨S1x2048x1x64, .f32⟩
  | 77 => ⟨S1x2048x512, .f32⟩
  | 78 => ⟨S_, .f32⟩
  | 79 => ⟨S1x2048, .f32⟩
  | 80 => ⟨S1x2048x1, .f32⟩
  | 81 => ⟨S_, .f32⟩
  | 82 => ⟨S1x2048x1, .f32⟩
  | 83 => ⟨S1x2048x1, .f32⟩
  | 84 => ⟨S1x1x512, .f32⟩
  | 85 => ⟨S1x2048x512, .f32⟩
  | 86 => ⟨S1x2048x512, .f32⟩
  | 87 => ⟨S_, .f32⟩
  | 88 => ⟨S1x2048x1, .f32⟩
  | 89 => ⟨S1x2048x1, .f32⟩
  | 90 => ⟨S1x2048x1, .f32⟩
  | 91 => ⟨S1x2048x512, .f32⟩
  | 92 => ⟨S1x2048x512, .f32⟩
  | 93 => ⟨S512x4096, .f32⟩
  | 94 => ⟨S1x2048x4096, .f32⟩
  | 95 => ⟨S1x2048x16x256, .f32⟩
  | 96 => ⟨S1x2048x16x128, .f32⟩
  | 97 => ⟨S1x2048x16x128, .f32⟩
  | 98 => ⟨S1x2048x16x64, .f32⟩
  | 99 => ⟨S1x2048x16x192, .f32⟩
  | 100 => ⟨S1x2048x16x192, .f32⟩
  | 101 => ⟨S_, .f32⟩
  | 102 => ⟨S_, .f32⟩
  | 103 => ⟨S_, .f32⟩
  | 104 => ⟨S_, .f32⟩
  | 105 => ⟨S1x16x2048x2048, .f32⟩
  | 106 => ⟨S1x2048x16x2048, .f32⟩
  | 107 => ⟨S1x2048x16x2048, .f32⟩
  | 108 => ⟨S1x2048x16x2048, .f32⟩
  | 109 => ⟨S1x2048x1x2048, .f32⟩
  | 110 => ⟨S_, .f32⟩
  | 111 => ⟨S1x2048x1x2048, .f32⟩
  | 112 => ⟨S1x2048x1x2048, .i1⟩
  | 113 => ⟨S1x2048x16x2048, .f32⟩
  | 114 => ⟨S1x2048x16x2048, .f32⟩
  | 115 => ⟨S_, .f32⟩
  | 116 => ⟨S_, .f32⟩
  | 117 => ⟨S1x2048x16x2048, .i1⟩
  | 118 => ⟨S1x2048x16x2048, .f32⟩
  | 119 => ⟨S1x2048x16x2048, .f32⟩
  | 120 => ⟨S_, .f32⟩
  | 121 => ⟨S1x2048x16, .f32⟩
  | 122 => ⟨S_, .f32⟩
  | 123 => ⟨S1x2048x16, .f32⟩
  | 124 => ⟨S1x2048x16, .f32⟩
  | 125 => ⟨S1x2048x16x1, .f32⟩
  | 126 => ⟨S1x2048x16x2048, .f32⟩
  | 127 => ⟨S1x2048x16x2048, .f32⟩
  | _ => ⟨S1x2048x2048, .f32⟩

abbrev hbmTy0_1 (i : Nat) : BufTy := match i % 128 with
  | 0 => ⟨S1x2048x16x2048, .f32⟩
  | 1 => ⟨S_, .f32⟩
  | 2 => ⟨S1x2048x16, .f32⟩
  | 3 => ⟨S1x2048x16x1, .f32⟩
  | 4 => ⟨S1x2048x16x2048, .f32⟩
  | 5 => ⟨S1x2048x16x2048, .f32⟩
  | 6 => ⟨S1x16x128x2048, .f32⟩
  | 7 => ⟨S1x2048x16x128, .f32⟩
  | 8 => ⟨S1x2048x2048, .f32⟩
  | 9 => ⟨S2048x2048, .f32⟩
  | 10 => ⟨S1x2048x2048, .f32⟩
  | _ => ⟨S1x2048x2048, .f32⟩

abbrev hbmTy (i : Nat) : BufTy := match i / 128 with
  | 0 => hbmTy0_0 i
  | 1 => hbmTy0_1 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_2 : Ref sig .tc := ⟨.hbm, 78, rfl⟩
abbrev main_v64 : Ref sig .tc := ⟨.hbm, 79, rfl⟩
abbrev main_v65 : Ref sig .tc := ⟨.hbm, 80, rfl⟩
abbrev main_cst_3 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_4 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_5 : Ref sig .tc := ⟨.hbm, 101, rfl⟩
abbrev main_v84 : Ref sig .tc := ⟨.hbm, 102, rfl⟩
abbrev main_cst_6 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_7 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_8 : Ref sig .tc := ⟨.hbm, 115, rfl⟩
abbrev main_call0_v0 : Ref sig .tc := ⟨.hbm, 116, rfl⟩
abbrev main_call0_v1 : Ref sig .tc := ⟨.hbm, 117, rfl⟩
abbrev main_call0_v2 : Ref sig .tc := ⟨.hbm, 118, rfl⟩
abbrev main_v95 : Ref sig .tc := ⟨.hbm, 119, rfl⟩
abbrev main_cst_9 : Ref sig .tc := ⟨.hbm, 120, rfl⟩
abbrev main_v96 : Ref sig .tc := ⟨.hbm, 121, rfl⟩
abbrev main_cst_10 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_11 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩

abbrev nD : Nat := 1
abbrev τ : Topo := Topo.v7x

variable {F : FTy → Type} [FloatOps F]
-- ==== Proof.Frames.lean ====
/-
  The frames of the three programs and the ledger of the idealization: what is claimed apart from the values.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel as compiled terminates from every memory, leaves its arguments alone and every counter at zero. -/
theorem frame_kernel : Cert.quiescent_Kernel := fun m ρ _ => Cert.Kernel.Gen.frame m ρ

/-- The idealized kernel terminates from every memory, leaves its arguments alone and every counter at zero. -/
theorem frame_kernel_ideal : Cert.quiescent_KernelIdeal := fun m ρ _ => Cert.KernelIdeal.Gen.frame m ρ

/-- The reference terminates from every memory, leaves its arguments alone, and has no counters to disturb. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The two named constants of the idealization stand for what the table says: the softmax scale `1/(√192 · log 2)` and,
    for the score of a masked place, minus infinity. -/
theorem preserves_kernel : Cert.preserves_Kernel_KernelIdeal :=
  ⟨IdealRules.named_const.statement _ _ _ _ _ rfl, IdealRules.named_const.statement _ _ _ _ _ rfl⟩

end Cert.Proof

end
-- ==== Proof.Base.lean ====
/-
  Extended-real arrays that hold real numbers, and the real-number formulas the two programs are compared to.
-/
module

public import Idealize.ShloMosaic.Lib.Pointwise
public import Idealize.ShloMosaic.Lib.IdealHost
public import Idealize.ShloMosaic.PureOps.IdealRules

@[expose] public section

set_option maxRecDepth 16384

noncomputable section

namespace Cert.Mla

open Idealize.ShloMosaic
open scoped BigOperators

/-- A one-axis array holds, at each index `i`, the real number `f i`. -/
abbrev Is1 {n0 : ℕ} (A : (⟨1, ![n0]⟩ : Shape).Idx → EReal) (f : ℕ → ℝ) : Prop :=
  ∀ i : Fin n0, A (ix1 i) = ((f i : ℝ) : EReal)

/-- A two-axis array holds, at each index `(i, j)`, the real number `f i j`. -/
abbrev Is2 {n0 n1 : ℕ} (A : (⟨2, ![n0, n1]⟩ : Shape).Idx → EReal) (f : ℕ → ℕ → ℝ) : Prop :=
  ∀ (i : Fin n0) (j : Fin n1), A (ix2 i j) = ((f i j : ℝ) : EReal)

/-- A three-axis array holds, at each index `(i, j, k)`, the real number `f i j k`. -/
abbrev Is3 {n0 n1 n2 : ℕ} (A : (⟨3, ![n0, n1, n2]⟩ : Shape).Idx → EReal) (f : ℕ → ℕ → ℕ → ℝ) : Prop :=
  ∀ (i : Fin n0) (j : Fin n1) (k : Fin n2), A (ix3 i j k) = ((f i j k : ℝ) : EReal)

/-- A four-axis array holds, at each index `(i, j, k, l)`, the real number `f i j k l`. -/
abbrev Is4 {n0 n1 n2 n3 : ℕ} (A : (⟨4, ![n0, n1, n2, n3]⟩ : Shape).Idx → EReal) (f : ℕ → ℕ → ℕ → ℕ → ℝ) : Prop :=
  ∀ (i : Fin n0) (j : Fin n1) (k : Fin n2) (l : Fin n3), A (ix4 i j k l) = ((f i j k l : ℝ) : EReal)

/-- A two-axis array holds, at each index `(i, j)`, the extended real `f i j`. -/
abbrev Val2 {n0 n1 : ℕ} (A : (⟨2, ![n0, n1]⟩ : Shape).Idx → EReal) (f : ℕ → ℕ → EReal) : Prop :=
  ∀ (i : Fin n0) (j : Fin n1), A (ix2 i j) = f i j

/-- A three-axis array holds, at each index `(i, j, k)`, the extended real `f i j k`. -/
abbrev Val3 {n0 n1 n2 : ℕ} (A : (⟨3, ![n0, n1, n2]⟩ : Shape).Idx → EReal) (f : ℕ → ℕ → ℕ → EReal) : Prop :=
  ∀ (i : Fin n0) (j : Fin n1) (k : Fin n2), A (ix3 i j k) = f i j k

/-- The sum of finitely many reals, taken in the extended reals, is their real sum. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The small constant under the square root of the normalization. -/
def eps : ℝ := (Ideal.ofBits .f32 0x358637BD#32).toReal

theorem eps_spec : Ideal.ofBits .f32 0x358637BD#32 = ((eps : ℝ) : EReal) ∧ 0 < eps := by
  have h : Ideal.ofBits .f32 0x358637BD#32 = ((8796093 / 8796093022208 : ℝ) : EReal) := by
    simp [Ideal.ofBits, Ideal.ieee, -EReal.coe_mul]; norm_num
  constructor
  · unfold eps; rw [h, EReal.toReal_coe]
  · unfold eps; rw [h, EReal.toReal_coe]; norm_num

theorem ofBits_1536 : Ideal.ofBits .f32 0x44C00000#32 = ((1536 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_192 : Ideal.ofBits .f32 0x43400000#32 = ((192 : ℝ) : EReal) := by
  simp [Ideal.ofBits, Ideal.ieee, -EReal.coe_mul]; norm_num

theorem ofBits_neg_1e9 : Ideal.ofBits .f32 0xCE6E6B28#32 = ((-1000000000 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

/-- A quotient of reals by a real that is not zero. -/
theorem div_real (a : ℝ) {b : ℝ} (hb : b ≠ 0) : Ideal.div (a : EReal) (b : EReal) = ((a / b : ℝ) : EReal) := by
  rw [Ideal.div_coe hb, ← EReal.coe_mul]; congr 1; ring

/-- The reciprocal square root of a positive real. -/
theorem rsqrt_real {a : ℝ} (ha : 0 < a) : Ideal.rsqrt (a : EReal) = (((Real.sqrt a)⁻¹ : ℝ) : EReal) := by
  rw [Ideal.rsqrt_coe, if_neg (not_lt.mpr ha.le), if_neg ha.ne']

/-- Root-mean-square normalization of the first `n` numbers of `a` with gains `g`, read at position `c`. -/
def rms (n : ℕ) (a g : ℕ → ℝ) (c : ℕ) : ℝ :=
  a c * (Real.sqrt ((∑ k : Fin n, a k * a k) / n + eps))⁻¹ * g c

/-- What stands under the square root of a normalization is positive. -/
theorem rms_pos (n : ℕ) (a : ℕ → ℝ) : 0 < (∑ k : Fin n, a k * a k) / n + eps := by
  have h1 : 0 ≤ (∑ k : Fin n, a k * a k) / (n : ℝ) :=
    div_nonneg (Finset.sum_nonneg fun k _ => mul_self_nonneg _) (Nat.cast_nonneg _)
  have h2 := eps_spec.2
  linarith

/-- Root-mean-square normalization of extended reals: as for reals where all of them are real, and zero where one of them
    is infinite, since the reciprocal square root of plus infinity is zero. -/
def rmsE (n : ℕ) (a : ℕ → EReal) (g : ℕ → ℝ) (c : ℕ) : ℝ :=
  open scoped Classical in
  if ∀ k : Fin n, a k = (((a k).toReal : ℝ) : EReal) then rms n (fun k => (a k).toReal) g c else 0

/-- A square is not negative. -/
theorem square_nonneg (a : EReal) : 0 ≤ a * a := by
  induction a with
  | bot => simp
  | top => simp
  | coe a => rw [← EReal.coe_mul, EReal.coe_nonneg]; exact mul_self_nonneg a

/-- Squares of which one is infinite add up to plus infinity. -/
theorem sum_squares_top {n : ℕ} (a : ℕ → EReal) (k : Fin n) (h : a k ≠ (((a k).toReal : ℝ) : EReal)) :
    ∑ k : Fin n, a k * a k = ⊤ := by
  have hk : a k * a k = ⊤ := by
    generalize a k = b at h
    induction b with
    | bot => simp
    | top => simp
    | coe b => simp at h
  have h0 : 0 ≤ ∑ x ∈ Finset.univ.erase k, a x * a x := Finset.sum_nonneg fun x _ => square_nonneg _
  rw [← Finset.add_sum_erase _ _ (Finset.mem_univ k), hk]
  exact EReal.top_add_of_ne_bot (ne_of_gt (lt_of_lt_of_le EReal.bot_lt_zero h0))

/-- The normalization as both programs compute it. -/
theorem rmsE_eq {n : ℕ} {N : ℝ} (hN : N = n) (a : ℕ → EReal) (g : ℕ → ℝ) (c : Fin n) :
    a c * Ideal.rsqrt (Ideal.div (∑ k : Fin n, a k * a k) (N : EReal) + (eps : EReal)) * (g c : EReal) = ((rmsE n a g c : ℝ) : EReal) := by
  have hn : (0 : ℝ) < n := by exact_mod_cast c.pos
  subst hN
  unfold rmsE
  split_ifs with h
  · have e : ∀ k : Fin n, a k * a k = (((a k).toReal * (a k).toReal : ℝ) : EReal) := fun k => by
      rw [EReal.coe_mul, ← h k]
    rw [Finset.sum_congr rfl fun k _ => e k, coe_sum, div_real _ hn.ne', ← EReal.coe_add,
      rsqrt_real (rms_pos n fun k => (a k).toReal), h c, ← EReal.coe_mul, ← EReal.coe_mul]
    rfl
  · obtain ⟨k, hk⟩ := not_forall.mp h
    rw [sum_squares_top a k hk, Ideal.div_coe hn.ne', EReal.top_mul_coe_of_pos (by positivity), EReal.top_add_coe]
    show a c * 0 * _ = _
    rw [mul_zero, zero_mul, EReal.coe_zero]

/-- The inputs of the layer: the activations, the two tables of the rotation, the weights and gains, as real numbers, but
    for the first query weights and the output weights, which may be infinite. -/
structure In where
  x : ℕ → ℕ → ℝ
  cos : ℕ → ℕ → ℝ
  sin : ℕ → ℕ → ℝ
  wqa : ℕ → ℕ → EReal
  gqa : ℕ → ℝ
  wqb : ℕ → ℕ → ℝ
  wkva : ℕ → ℕ → ℝ
  gkv : ℕ → ℝ
  wkvb : ℕ → ℕ → ℝ
  wo : ℕ → ℕ → EReal

namespace In

variable (I : In)

/-- The query latent: the projected activations of row `r`, normalized. -/
def lat (r k : ℕ) : ℝ := rmsE 1536 (fun k => ∑ j : Fin 2048, (I.x r j : EReal) * I.wqa k j) I.gqa k

/-- The queries of row `r` before the rotation, column `n` of all heads' columns. -/
def qraw (r n : ℕ) : ℝ := ∑ k : Fin 1536, I.lat r k * I.wqb n k

/-- Entry `e` of a row of numbers `a`, rotated in pairs by the tables at row `r`. -/
def rot (a : ℕ → ℝ) (r e : ℕ) : ℝ :=
  if e % 2 = 0 then a e * I.cos r (e / 2) - a (e + 1) * I.sin r (e / 2)
  else a (e - 1) * I.sin r (e / 2) + a e * I.cos r (e / 2)

/-- Entry `d` of head `h`'s query at row `r`: 128 plain entries, then 64 rotated ones. -/
def qf (r h d : ℕ) : ℝ :=
  if d < 128 then I.qraw r (h * 192 + d) else I.rot (fun e => I.qraw r (h * 192 + 128 + e)) r (d - 128)

/-- The key-value projection of row `t`. -/
def kvraw (t n : ℕ) : ℝ := ∑ j : Fin 2048, I.x t j * I.wkva n j

/-- The key entries all heads share, rotated. -/
def kpe (t e : ℕ) : ℝ := I.rot (fun e => I.kvraw t (512 + e)) t e

/-- The normalized key-value latent of row `t`. -/
def latkv (t k : ℕ) : ℝ := rms 512 (I.kvraw t) I.gkv k

/-- The keys and values of row `t`, column `n` of all heads' columns. -/
def kvb (t n : ℕ) : ℝ := ∑ k : Fin 512, I.latkv t k * I.wkvb n k

/-- Entry `d` of head `h`'s key at row `t`. -/
def kf (t h d : ℕ) : ℝ := if d < 128 then I.kvb t (h * 256 + d) else I.kpe t (d - 128)

/-- Entry `e` of head `h`'s value at row `t`. -/
def vf (t h e : ℕ) : ℝ := I.kvb t (h * 256 + 128 + e)

/-- The score of query row `r` against key row `t` in head `h`, before the scale. -/
def sc (r h t : ℕ) : ℝ := ∑ d : Fin 192, I.qf r h d * I.kf t h d

/-- The unnormalized attention weight. -/
def wt (r h t : ℕ) : ℝ := Real.exp (I.sc r h t * (Real.sqrt 192)⁻¹)

/-- Entry `e` of head `h`'s causal attention at row `r`. -/
def att (r h e : ℕ) : ℝ :=
  (∑ t ∈ Finset.range (r + 1), I.wt r h t * I.vf t h e) / ∑ t ∈ Finset.range (r + 1), I.wt r h t

/-- The layer's output at row `r`, column `c`. -/
def out (r c : ℕ) : EReal := ∑ n : Fin 2048, (I.att r (n / 128) (n % 128) : EReal) * I.wo c n

end In

end Cert.Mla

end
-- ==== Proof.Region1.lean ====
/-
  The second call: the queries of all heads, scaled and rotated.
-/
module

public import proofs.«01_k».proof.Proof.Base
public import proofs.«01_k».proof.Proof.Gen.KernelIdeal.Frame
public import Idealize.ShloMosaic.Lib.Pipeline.ValueKit

@[expose] public section

set_option maxRecDepth 200000

noncomputable section

namespace Cert.Mla

open Idealize.ShloMosaic Idealize.ShloMosaic.TcCoe Idealize.SL.Sem
open Idealize.ShloMosaic.Pipeline (Dat)
open Cert.KernelIdeal Cert.KernelIdeal.Gen
open scoped BigOperators

/-- The scale the kernel folds into its queries: the reciprocal square root of the head size, in base-two exponents. -/
def scl : ℝ := (Real.sqrt 192)⁻¹ * (Real.log 2)⁻¹

theorem named_scale : Named.named (F := Ideal) κ "scale" (φ := .f32) 0x3DD53B95#32 = ((scl : ℝ) : EReal) :=
  IdealRules.named_const.ideal_named_scalar _ _ _ _ rfl

/-- The kernel's test for an even column, computed in words, is the test for an even number. -/
theorem even_word : ∀ j : Fin 4096, IntOp.cmpi CmpIPredicate.eq
    (Scalar.select
      (IntOp.andi
        (IntOp.xori
          (IntOp.cmpi CmpIPredicate.slt
            (IntOp.remsi ArithUnit.vector (BitVec.ofNat 32 j.val)
              (Scalar.select (Scalar.cmpi CmpIPredicate.eq 2#32 0#32) 1#32 2#32)) 0#32)
          (Scalar.cmpi CmpIPredicate.slt (Scalar.select (Scalar.cmpi CmpIPredicate.eq 2#32 0#32) 1#32 2#32) 0#32))
        (IntOp.cmpi CmpIPredicate.ne
          (IntOp.remsi ArithUnit.vector (BitVec.ofNat 32 j.val)
            (Scalar.select (Scalar.cmpi CmpIPredicate.eq 2#32 0#32) 1#32 2#32)) 0#32))
      (IntOp.addi
        (IntOp.remsi ArithUnit.vector (BitVec.ofNat 32 j.val)
          (Scalar.select (Scalar.cmpi CmpIPredicate.eq 2#32 0#32) 1#32 2#32))
        (Scalar.select (Scalar.cmpi CmpIPredicate.eq 2#32 0#32) 1#32 2#32))
      (IntOp.remsi ArithUnit.vector (BitVec.ofNat 32 j.val)
        (Scalar.select (Scalar.cmpi CmpIPredicate.eq 2#32 0#32) 1#32 2#32)))
    0#32 = if j.val % 2 = 0 then 1#1 else 0#1 := by decide +kernel

/-- Each entry times the first table plus its pair's other entry times the second table. -/
def pairs (q c s : ℕ → ℝ) (n : ℕ) : ℝ := q n * c n + (if n % 2 = 0 then q (n + 1) else q (n - 1)) * s n

/-- What the second call stores: the scaled product, each entry times the first table plus its pair's other entry times
    the second table. -/
theorem pay1 (X : FVec Ideal S256x1536 .bf16) (W : FVec Ideal S4096x1536 .bf16) (C S : FVec Ideal S256x4096 .bf16)
    {x w cs sn : ℕ → ℕ → ℝ} (hX : Is2 X x) (hW : Is2 W w) (hC : Is2 C cs) (hS : Is2 S sn) :
    Is2 (k1_pay1 (F := Ideal) (k1_pay2 (F := Ideal) X W C S))
      (fun r n => pairs (fun n => (∑ k : Fin 1536, x r k * w n k) * scl) (cs r) (sn r) n) := by
  intro i j
  pointwise [k1_pay2, k1_pay1]
  simp only [hX _ _, hW _ _, hC _ _, hS _ _, ← EReal.coe_mul, coe_sum, named_scale]
  rw [even_word j, pairs]
  by_cases h : j.val % 2 = 0
  · rw [if_pos h, if_pos h, dif_pos (by omega), Nat.add_comm 1]
    simp only [Scalar.select, EReal.coe_add, EReal.coe_mul]
    rfl
  · rw [if_neg h, if_neg h, dif_neg (by omega : ¬ j.val < 1)]
    simp only [Scalar.select, EReal.coe_add, EReal.coe_mul]
    rfl

/-- The blocks of the second call: point `t` reads and writes the rows from `256 t`, and the weights whole. -/
theorem idx1 : ∀ t : Fin cfg1.N, win1_0.index t = ![t.val, 0] ∧ win1_1.index t = ![0, 0] ∧ win1_2.index t = ![t.val, 0]
    ∧ win1_3.index t = ![t.val, 0] ∧ win1_4.index t = ![t.val, 0] ∧ t.val < 8 :=
  (by decide +kernel : ∀ t : Fin grid1.N, _)

variable (V : (c : Dev nD) → (b : Ref sig .tc) → Buf (Elt Ideal) ((c : Thread nD τ).loc b))

/-- The array the second call leaves: the queries. -/
theorem region1 (c : Dev nD) {x w cs sn : ℕ → ℕ → ℝ} (hX : Is2 (n0 := 2048) (n1 := 1536) (V c main_v46) x)
    (hW : Is2 (n0 := 4096) (n1 := 1536) (V c main_v36) w) (hC : Is2 (n0 := 2048) (n1 := 4096) (V c main_v20) cs)
    (hS : Is2 (n0 := 2048) (n1 := 4096) (V c main_v25) sn) :
    Is2 (n0 := 2048) (n1 := 4096) ((dat1 V c).arrAt 4 cfg1.N)
      (fun r n => pairs (fun n => (∑ k : Fin 1536, x r k * w n k) * scl) (cs r) (sn r) n) := by
  intro i j
  refine congrFun ((dat1 V c).arrAt_eq_of_covers 4 (fun y : S2048x4096.Idx =>
    ((pairs (fun n => (∑ k : Fin 1536, x (y 0).val k * w n k) * scl) (cs (y 0).val) (sn (y 0).val) (y 1).val : ℝ) : EReal))
    (by decide +kernel) fun t hf y => ?_) (ix2 i j)
  blk_simp
  rw [after1_4]; frame_out
  have ht := (idx1 t).2.2.2.2.2
  have hx : Is2 (n0 := 256) (n1 := 1536) (iblk1 V c 0 t) (fun r k => x (t.val * 256 + r) k) := fun a b => by
    refine Eq.trans ?_ (hX ⟨t.val * 256 + a.val, by omega⟩ b)
    blk_ext [iblk1, idx1 t]
  have hw : Is2 (n0 := 4096) (n1 := 1536) (iblk1 V c 1 t) w := fun a b => by
    refine Eq.trans ?_ (hW a b)
    blk_ext [iblk1, idx1 t]
  have hc : Is2 (n0 := 256) (n1 := 4096) (iblk1 V c 2 t) (fun r k => cs (t.val * 256 + r) k) := fun a b => by
    refine Eq.trans ?_ (hC ⟨t.val * 256 + a.val, by omega⟩ b)
    blk_ext [iblk1, idx1 t]
  have hs : Is2 (n0 := 256) (n1 := 4096) (iblk1 V c 3 t) (fun r k => sn (t.val * 256 + r) k) := fun a b => by
    refine Eq.trans ?_ (hS ⟨t.val * 256 + a.val, by omega⟩ b)
    blk_ext [iblk1, idx1 t]
  rw [eq_ix2 y]
  refine (pay1 _ _ _ _ hx hw hc hs (y 0) (y 1)).trans ?_
  simp [idx1 t]

end Cert.Mla

end
-- ==== Proof.Region2.lean ====
/-
  The third call: the keys and values of all heads.
-/
module

public import proofs.«01_k».proof.Proof.Region1
public import proofs.«01_k».proof.Proof.Gen.KernelIdeal.Frame
public import Idealize.ShloMosaic.Lib.Pipeline.ValueKit

@[expose] public section

set_option maxRecDepth 200000

noncomputable section

namespace Cert.Mla

open Idealize.ShloMosaic Idealize.ShloMosaic.TcCoe Idealize.SL.Sem
open Idealize.ShloMosaic.Pipeline (Dat)
open Cert.KernelIdeal Cert.KernelIdeal.Gen
open scoped BigOperators

/-- The key-value projection of a block. -/
theorem pay2_proj (X : FVec Ideal S256x2048 .bf16) (W : FVec Ideal S576x2048 .bf16)
    {x w : ℕ → ℕ → ℝ} (hX : Is2 X x) (hW : Is2 W w) :
    Is2 (k2_pay4 (F := Ideal) X W) (fun r c => ∑ n : Fin 2048, x r n * w c n) := by
  intro i j
  pointwise [k2_pay4]
  simp only [hX _ _, hW _ _, ← EReal.coe_mul, coe_sum]

/-- The normalized latent times the up-projection. -/
theorem pay2_up (A : FVec Ideal S256x576 .f32) (G : FVec Ideal S1x512 .f32) (W : FVec Ideal S4096x512 .bf16)
    {a g w : ℕ → ℕ → ℝ} (hA : Is2 A a) (hG : Is2 G g) (hW : Is2 W w) :
    Is2 (k2_pay1 (F := Ideal) A G W) (fun r n => ∑ k : Fin 512, rms 512 (a r) (g 0) k * w n k) := by
  intro i j
  pointwise [k2_pay1]
  simp only [hA _ _, hW _ _, hG _ _, ← EReal.coe_mul, coe_sum, ofBits_512, eps_spec.1]
  rw [div_real _ (by norm_num), ← EReal.coe_add,
    rsqrt_real (by have := rms_pos 512 (a i); exact_mod_cast this)]
  simp only [← EReal.coe_mul, coe_sum]
  simp [rms]

/-- The rotated entries. -/
theorem pay2_rot (X : FVec Ideal S256x2048 .bf16) (W : FVec Ideal S576x2048 .bf16) (C S : FVec Ideal S256x576 .bf16)
    {a cs sn : ℕ → ℕ → ℝ} (hA : Is2 (k2_pay4 (F := Ideal) X W) a) (hC : Is2 C cs) (hS : Is2 S sn) :
    Is2 (k2_pay5 (F := Ideal) X W C S) (fun r e => pairs (a r) (cs r) (sn r) (512 + e)) := by
  intro i j
  pointwise [k2_pay5]
  simp only [hA _ _, hC _ _, hS _ _]
  have hw := even_word ⟨512 + j.val, by omega⟩
  simp only at hw
  rw [hw, pairs]
  by_cases h : (512 + j.val) % 2 = 0
  · rw [if_pos h, if_pos h, dif_pos (by omega), Nat.add_comm 1]
    simp only [Scalar.select, EReal.coe_add, EReal.coe_mul]
    rfl
  · rw [if_neg h, if_neg h, dif_neg (by omega : ¬ 512 + j.val < 1)]
    simp only [Scalar.select, EReal.coe_add, EReal.coe_mul]
    rfl

theorem slices_head : ∀ n : Fin 32, Shape.Slices S256x4096 ![0, n.val / 2 * 128] S256x128 := by decide +kernel

/-- The 32 pieces of the keys' block: each head's plain entries, then the shared rotated ones followed by zeros. -/
def piece (U : FVec Ideal S256x4096 .bf16) (T : FVec Ideal S256x128 .bf16) (n : Fin 32) : S256x128.Idx → EReal :=
  if n.val % 2 = 0 then extractStridedSlice S256x128 ![0, n.val / 2 * 128] U (slices_head n) else T

/-- The keys' block read at an index: the piece its column lies in, at the column within the piece. -/
theorem keys_piece (A : FVec Ideal S256x576 .f32) (R : FVec Ideal S256x64 .f32) (Z : FVec Ideal S256x64 .f32)
    (G : FVec Ideal S1x512 .f32) (W : FVec Ideal S4096x512 .bf16) (i : Fin 256) (j : Fin 4096) :
    k2_pay2 (F := Ideal) A R Z G W (ix2 i j)
      = piece (truncf .bf16 (k2_pay1 (F := Ideal) A G W) bitsLt_bf16_f32)
          (truncf .bf16 (concatenate S256x128 1 [⟨S256x64, R⟩, ⟨S256x64, Z⟩] concatenates_S256x64_S256x64_S256x128_d1 : FVec Ideal S256x128 .f32) bitsLt_bf16_f32)
          ⟨j.val / 128, by omega⟩ (ix2 i ⟨j.val % 128, by omega⟩) := by
  unfold k2_pay2
  generalize (truncf .bf16 (k2_pay1 (F := Ideal) A G W) bitsLt_bf16_f32 : FVec Ideal S256x4096 .bf16) = U
  generalize (truncf .bf16 (concatenate S256x128 1 [⟨S256x64, R⟩, ⟨S256x64, Z⟩] concatenates_S256x64_S256x64_S256x128_d1 : FVec Ideal S256x128 .f32) bitsLt_bf16_f32 : FVec Ideal S256x128 .bf16) = T
  have e := concatenate_ofFn_apply (N := 32) (t := S256x4096) (s₁ := S256x128) 1 (piece U T) concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x4096_d1 rfl 128 rfl (ix2 i j) ⟨j.val / 128, by omega⟩ rfl (ix2 i ⟨j.val % 128, by omega⟩) rfl (by
    intro a h
    match a with
    | 0 => rfl
    | 1 => exact absurd rfl h)
  exact e

/-- The keys' block: per head the plain entries, the rotated ones and zeros. -/
theorem pay2_keys (A : FVec Ideal S256x576 .f32) (R : FVec Ideal S256x64 .f32)
    (G : FVec Ideal S1x512 .f32) (W : FVec Ideal S4096x512 .bf16) {u rr : ℕ → ℕ → ℝ}
    (hU : Is2 (k2_pay1 (F := Ideal) A G W) u) (hR : Is2 R rr) :
    Is2 (k2_pay2 (F := Ideal) A R (k2_pay6 (F := Ideal)) G W) (fun r n => if n % 256 < 128 then u r (n / 256 * 128 + n % 256)
      else if n % 256 < 192 then rr r (n % 256 - 128) else 0) := by
  intro i j
  have hj := j.isLt
  rw [keys_piece, piece]
  beta_reduce
  by_cases h : j.val / 128 % 2 = 0
  · rw [if_pos h, if_pos (by omega)]
    refine Eq.trans ?_ ((hU i ⟨j.val / 256 * 128 + j.val % 256, by omega⟩).trans rfl)
    refine congrArg (k2_pay1 (F := Ideal) A G W) (funext fun a => Fin.ext ?_)
    match a with
    | ⟨0, _⟩ => exact Nat.zero_add _
    | ⟨1, _⟩ => show j.val / 128 / 2 * 128 + j.val % 128 = j.val / 256 * 128 + j.val % 256; omega
  · rw [if_neg h, if_neg (by omega)]
    pointwise [k2_pay6]
    by_cases h2 : j.val % 256 < 192
    · rw [dif_pos (by omega), if_pos h2, hR _ _]
      refine congrArg (fun n => ((rr i.val n : ℝ) : EReal)) ?_
      show j.val % 128 = j.val % 256 - 128
      omega
    · rw [dif_neg (by omega), if_neg h2]
      simp

/-- The values' block. -/
theorem pay2_vals (A : FVec Ideal S256x576 .f32)
    (G : FVec Ideal S1x512 .f32) (W : FVec Ideal S4096x512 .bf16) {u : ℕ → ℕ → ℝ}
    (hU : Is2 (k2_pay1 (F := Ideal) A G W) u) :
    Is2 (k2_pay3 (F := Ideal) A G W) (fun r n => u r (2048 + n)) := by
  intro i j
  pointwise [k2_pay3]
  exact hU i ⟨2048 + j.val, by omega⟩

/-- The blocks of the third call: point `t` reads and writes the rows from `256 t`, and the weights whole. -/
theorem idx2 : ∀ t : Fin cfg2.N, win2_0.index t = ![t.val, 0] ∧ win2_1.index t = ![0, 0] ∧ win2_2.index t = ![0, 0]
    ∧ win2_3.index t = ![0, 0] ∧ win2_4.index t = ![t.val, 0] ∧ win2_5.index t = ![t.val, 0] ∧ win2_6.index t = ![t.val, 0]
    ∧ win2_7.index t = ![t.val, 0] ∧ t.val < 8 :=
  (by decide +kernel : ∀ t : Fin grid2.N, _)

/-- The up-projection of the normalized latent, from the projection of the rows. -/
def upr (x w : ℕ → ℕ → ℝ) (g : ℕ → ℝ) (wb : ℕ → ℕ → ℝ) (r n : ℕ) : ℝ :=
  ∑ k : Fin 512, rms 512 (fun c => ∑ m : Fin 2048, x r m * w c m) g k * wb n k

/-- The keys as the call lays them out: per head of 256 columns the plain entries, the rotated ones, and zeros. -/
def keysAt (x w : ℕ → ℕ → ℝ) (g : ℕ → ℝ) (wb cs sn : ℕ → ℕ → ℝ) (r n : ℕ) : ℝ :=
  if n % 256 < 128 then upr x w g wb r (n / 256 * 128 + n % 256)
  else if n % 256 < 192 then pairs (fun c => ∑ m : Fin 2048, x r m * w c m) (cs r) (sn r) (512 + (n % 256 - 128)) else 0

end Cert.Mla

end
-- ==== Proof.Region3.lean ====
/-
  The fourth call: causal attention, one head and 256 rows at a time.
-/
module

public import proofs.«01_k».proof.Proof.Base
public import proofs.«01_k».proof.Proof.Gen.KernelIdeal.Frame
public import Idealize.ShloMosaic.Lib.Pipeline.ValueKit

@[expose] public section

set_option maxRecDepth 20000

noncomputable section

namespace Cert.Mla

open Idealize.ShloMosaic Idealize.ShloMosaic.TcCoe Idealize.SL.Sem
open Idealize.ShloMosaic.Pipeline (Dat)
open Cert.KernelIdeal Cert.KernelIdeal.Gen
open scoped BigOperators

/-- The exponentials of a full block. -/
theorem pay5 (Q : FVec Ideal S256x256 .bf16) (K : FVec Ideal S512x256 .bf16) {q k : ℕ → ℕ → ℝ} (hQ : Is2 Q q) (hK : Is2 K k) :
    Is2 (k3_pay5 (F := Ideal) Q K) (fun r t => (2 : ℝ) ^ (∑ n : Fin 256, q r n * k t n)) := by
  intro i j
  pointwise [k3_pay5, k3_pay2]
  simp only [hQ _ _, hK _ _, ← EReal.coe_mul, coe_sum]
  rfl

/-- The running sum of the exponentials after a full block. -/
theorem pay6 (Q : FVec Ideal S256x256 .bf16) (L : FVec Ideal S256x1 .f32) (K : FVec Ideal S512x256 .bf16) {p l : ℕ → ℕ → ℝ}
    (hP : Is2 (k3_pay5 (F := Ideal) Q K) p) (hL : Is2 L l) :
    Is2 (k3_pay6 (F := Ideal) Q L K) (fun r t => l r t + ∑ n : Fin 512, p r n) := by
  intro i j
  pointwise [k3_pay6]
  rw [Subsingleton.elim j 0]
  simp only [hP _ _, hL _ _, coe_sum, ← EReal.coe_add]
  rfl

/-- The running weighted sum after a full block. -/
theorem pay7 (Q : FVec Ideal S256x256 .bf16) (A : FVec Ideal S256x128 .f32) (K : FVec Ideal S512x256 .bf16) (W : FVec Ideal S512x128 .bf16)
    {p a v : ℕ → ℕ → ℝ} (hP : Is2 (k3_pay5 (F := Ideal) Q K) p) (hA : Is2 A a) (hV : Is2 W v) :
    Is2 (k3_pay7 (F := Ideal) Q A K W) (fun r e => a r e + ∑ n : Fin 512, p r n * v n e) := by
  intro i j
  pointwise [k3_pay7]
  simp only [hP _ _, hA _ _, hV _ _, ← EReal.coe_mul, coe_sum, ← EReal.coe_add]
  try rfl

/-- The starting sums are zero. -/
theorem pay3 : Is2 (k3_pay3 (F := Ideal)) (fun _ _ => 0) := by
  intro i j
  pointwise [k3_pay3]
  simp

theorem pay4 : Is2 (k3_pay4 (F := Ideal)) (fun _ _ => 0) := by
  intro i j
  pointwise [k3_pay4]
  simp

theorem named_masked : Named.named (F := Ideal) κ "masked" (φ := .f32) 0xF149F2CA#32 = (⊥ : EReal) :=
  IdealRules.named_const.ideal_named_scalar _ _ _ _ rfl

/-- The causal comparison of the last block, in numbers. -/
theorem mask_word (qi nb i x : ℕ) (hq : qi < 8) (hn : nb < 4) (hi : i < 256) (hx : x < 512) :
    IntOp.cmpi .sge (IntOp.addi (Scalar.muli (BitVec.ofNat 32 qi) 256#32) (BitVec.ofNat 32 i))
      (IntOp.addi (Scalar.muli (BitVec.ofNat 32 nb) 512#32) (BitVec.ofNat 32 x))
      = BitVec.ofBool (decide (nb * 512 + x ≤ qi * 256 + i)) := by
  have e1 : IntOp.addi (Scalar.muli (BitVec.ofNat 32 qi) 256#32) (BitVec.ofNat 32 i) = BitVec.ofNat 32 (qi * 256 + i) := by
    apply BitVec.eq_of_toNat_eq; simp [IntOp.addi, Scalar.muli, IntOp.muli]
  have e2 : IntOp.addi (Scalar.muli (BitVec.ofNat 32 nb) 512#32) (BitVec.ofNat 32 x) = BitVec.ofNat 32 (nb * 512 + x) := by
    apply BitVec.eq_of_toNat_eq; simp [IntOp.addi, Scalar.muli, IntOp.muli]
  rw [e1, e2, WordCmp.cmpi_sge_ofNat (by omega) (by omega)]

/-- The masked exponential. -/
theorem exp2_masked (d : Bool) (s : ℝ) :
    FloatOps.exp2 (F := Ideal) (φ := .f32) (Scalar.select (BitVec.ofBool d) (s : EReal) (Named.named (F := Ideal) κ "masked" (φ := .f32) 0xF149F2CA#32))
      = ((if d then (2 : ℝ) ^ s else 0 : ℝ) : EReal) := by
  rw [named_masked]
  cases d
  · rfl
  · rfl

/-- The last block, masked: what the call stores. -/
theorem pay_last (Q : FVec Ideal S256x256 .bf16) (L : FVec Ideal S256x1 .f32) (A : FVec Ideal S256x128 .f32)
    (K : FVec Ideal S512x256 .bf16) (W : FVec Ideal S512x128 .bf16) (qi nb : ℕ) (hq : qi < 8) (hn : nb < 4) (hle : nb * 512 ≤ qi * 256)
    {q k l a v : ℕ → ℕ → ℝ} (hQ : Is2 Q q) (hK : Is2 K k) (hL : Is2 L l) (hA : Is2 A a) (hV : Is2 W v) (hl : ∀ r, 0 ≤ l r 0) :
    Is2 (k3_pay1 (F := Ideal) (BitVec.ofNat 32 qi) Q L A (BitVec.ofNat 32 nb) K (constant S256x512 .f32 0x00000000#32) W)
      (fun r e => (a r e + ∑ t : Fin 512, (if nb * 512 + t ≤ qi * 256 + r then (2 : ℝ) ^ (∑ n : Fin 256, q r n * k t n) else 0) * v t e)
        / (l r 0 + ∑ t : Fin 512, if nb * 512 + t ≤ qi * 256 + r then (2 : ℝ) ^ (∑ n : Fin 256, q r n * k t n) else 0)) := by
  intro i j
  pointwise [k3_pay1]
  have hm : ∀ x : Fin 512, _ := fun x => mask_word qi nb i.val x.val hq hn i.isLt x.isLt
  simp only [hQ _ _, hK _ _, hL _ _, hA _ _, hV _ _, hm, ← EReal.coe_mul, coe_sum, exp2_masked, ← EReal.coe_add, decide_eq_true_eq]
  have hpos : 0 < ∑ t : Fin 512, if nb * 512 + t.val ≤ qi * 256 + i.val then (2 : ℝ) ^ (∑ n : Fin 256, q i n * k t n) else 0 := by
    refine Finset.sum_pos' (fun t _ => ?_) ⟨0, Finset.mem_univ _, ?_⟩
    · split
      · positivity
      · exact le_rfl
    · rw [if_pos (by simp; omega)]; positivity
  have hl' : 0 ≤ l i.val (0 : Fin 1).val := hl i.val
  rw [div_real _ (by positivity)]
  rfl

/-- A sum over a prefix, its last block of 512 taken up to a bound. -/
theorem split_sum (f : ℕ → ℝ) (b R : ℕ) (h1 : b ≤ R) (h2 : R < b + 512) :
    ∑ t ∈ Finset.range b, f t + ∑ n : Fin 512, (if b + n.val ≤ R then f (b + n.val) else 0) = ∑ t ∈ Finset.range (R + 1), f t := by
  obtain ⟨m, rfl⟩ := Nat.exists_eq_add_of_le h1
  rw [Nat.add_assoc, Finset.sum_range_add]
  congr 1
  rw [← Finset.sum_range (fun n => if b + n ≤ b + m then f (b + n) else 0), ← Finset.sum_filter]
  refine Finset.sum_congr (Finset.ext fun x => ?_) fun _ _ => rfl
  simp only [Finset.mem_filter, Finset.mem_range]
  omega

variable (V : (c : Dev nD) → (b : Ref sig .tc) → Buf (Elt Ideal) ((c : Thread nD τ).loc b))

/-- One pass of the loop over the full blocks. -/
theorem trip1 (𝒱 : Variants) (c : Dev nD) (bd : Option 𝒱.V) (i : grid3.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .bf16) (harg5 : arg5.IsWhole)
    (x0 : Vec Ideal S256x256 .bf16) (x1 : Vec Ideal S2048x256 .bf16) (x2 : Vec Ideal S2048x128 .bf16)
    (k : Fin (k3_t1_loop i).trips) (acc : FVec Ideal S256x1 .f32 × FVec Ideal S256x128 .f32) :
    tripR_k3_t1 (F := Ideal) 𝒱 c bd i arg2 harg2 arg3 harg3 arg4 harg4 arg5 harg5 x0 (harg3.unread x1) (harg4.unread x2) k acc
      = (k3_pay6 (F := Ideal) x0 acc.1 (View.ld x1 (Rect.unit (s := S2048x256) (k3_off1 i k) S512x256.size (k3_off1_inb i k))),
         k3_pay7 (F := Ideal) x0 acc.2 (View.ld x1 (Rect.unit (s := S2048x256) (k3_off1 i k) S512x256.size (k3_off1_inb i k)))
          (View.ld x2 (Rect.unit (s := S2048x128) (k3_off2 i k) S512x128.size (k3_off2_inb i k)))) := by
  unfold tripR_k3_t1 trip_k3_t1
  dsimp only
  simp only [View.readAt_eq_ld, Memref.IsWhole.read_unread]

/-- The two sums before pass `n` of the loop over the full blocks. -/
def sums (c : Dev nD) (i : grid3.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .bf16) (harg5 : arg5.IsWhole)
    (x0 : Vec Ideal S256x256 .bf16) (x1 : Vec Ideal S2048x256 .bf16) (x2 : Vec Ideal S2048x128 .bf16) (n : ℕ) :
    FVec Ideal S256x1 .f32 × FVec Ideal S256x128 .f32 :=
  st_k3_t1 (F := Ideal) Variants.none c none i arg2 harg2 arg3 harg3 arg4 harg4 arg5 harg5 x0 (harg3.unread x1) (harg4.unread x2) (k3_pay3, k3_pay4) n

/-- What the call leaves, where its second loop makes no pass. -/
theorem out3_eq (c : Dev nD) (i : grid3.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .bf16) (harg5 : arg5.IsWhole)
    (x0 : Vec Ideal S256x256 .bf16) (x1 : Vec Ideal S2048x256 .bf16) (x2 : Vec Ideal S2048x128 .bf16)
    (h2 : (k3_t2_loop i).trips = 0) :
    out3_A_3 (F := Ideal) c i arg2 harg2 arg3 harg3 arg4 harg4 arg5 harg5 x0 x1 x2
      = k3_pay1 (F := Ideal) (BitVec.ofNat 32 (i 1).val) (k3_pay2 (F := Ideal) x0)
          (sums c i arg2 harg2 arg3 harg3 arg4 harg4 arg5 harg5 x0 x1 x2 (k3_t1_loop i).trips).1
          (sums c i arg2 harg2 arg3 harg3 arg4 harg4 arg5 harg5 x0 x1 x2 (k3_t1_loop i).trips).2
          (kernelRun3_A.sl.v31 i)
          (k3_pay11 (F := Ideal) (View.ld x1 (Rect.unit (s := S2048x256) (k3_off5 i) S512x256.size (k3_off5_inb i))))
          (constant S256x512 .f32 0x00000000#32)
          (View.ld x2 (Rect.unit (s := S2048x128) (k3_off6 i) S512x128.size (k3_off6_inb i))) := by
  unfold out3_A_3 kernelRun3_A
  dsimp only
  simp (disch := decide) only [View.read_writes_junk_eq_canon, View.canon_cons_unit_lit', View.ld_unit_lit', View.readCov_unit_lit', View.readCov_cons_unit_lit', View.readAt_eq_ld, Memref.IsWhole.read_unread]
  unfold kernelRun3_A.sl.r kernelRun3_A.sl.r_1 kernelRun3_A.sl.r_2 kernelRun3_A.sl.r_3 kernelRun3_A.sl.cst_15
  simp (disch := decide) only [View.ld_unit_lit', View.readAt_eq_ld, Memref.IsWhole.read_unread]
  have e : ∀ X : FVec Ideal S256x1 .f32 × FVec Ideal S256x128 .f32,
      st_k3_t2 (F := Ideal) Variants.none c none i arg2 harg2 arg3 harg3 arg4 harg4 arg5 harg5 x0 (harg3.unread x1) (harg4.unread x2) X (k3_t2_loop i).trips = X :=
    fun X => by rw [h2]; rfl
  unfold sums
  exact congrArg₂ (fun (a : FVec Ideal S256x1 .f32) (b : FVec Ideal S256x128 .f32) => k3_pay1 (F := Ideal) (BitVec.ofNat 32 (i 1).val) (k3_pay2 (F := Ideal) x0) a b
          (kernelRun3_A.sl.v31 i)
          (k3_pay11 (F := Ideal) (View.ld x1 (Rect.unit (s := S2048x256) (k3_off5 i) S512x256.size (k3_off5_inb i))))
          (constant S256x512 .f32 0x00000000#32)
          (View.ld x2 (Rect.unit (s := S2048x128) (k3_off6 i) S512x128.size (k3_off6_inb i)))) (congrArg Prod.fst (e _)) (congrArg Prod.snd (e _))

/-- The loop bounds and the offsets of the loads, point by point. -/
theorem idx3 : ∀ t : Fin cfg3.N, win3_0.index t = ![t.val % 8, t.val / 8] ∧ win3_1.index t = ![0, t.val / 8]
    ∧ win3_2.index t = ![0, t.val / 8] ∧ win3_3.index t = ![t.val % 8, t.val / 8] ∧ t.val < 128 :=
  (by decide +kernel : ∀ t : Fin grid3.N, _)

theorem word3 : ∀ t : Fin cfg3.N, ((grid3.coords t) 1).val = t.val % 8 ∧ (k3_t1_loop (grid3.coords t)).trips = t.val % 8 / 2
    ∧ (k3_t2_loop (grid3.coords t)).trips = 0 ∧ kernelRun3_A.sl.v31 (grid3.coords t) = BitVec.ofNat 32 (t.val % 8 / 2)
    ∧ k3_off5 (grid3.coords t) = ![t.val % 8 / 2 * 512, 0] ∧ k3_off6 (grid3.coords t) = ![t.val % 8 / 2 * 512, 0] :=
  (by decide +kernel : ∀ t : Fin grid3.N, _)

theorem off3 : ∀ t : Fin cfg3.N, ∀ k : Fin (k3_t1_loop (grid3.coords t)).trips,
    k3_off1 (grid3.coords t) k = ![k.val * 512, 0] ∧ k3_off2 (grid3.coords t) k = ![k.val * 512, 0] :=
  (by decide +kernel : ∀ t : Fin grid3.N, _)

/-- The exponential of a score, in base 2. -/
def ex (q k : ℕ → ℕ → ℝ) (r t : ℕ) : ℝ := (2 : ℝ) ^ (∑ n : Fin 256, q r n * k t n)

theorem ex_pos (q k : ℕ → ℕ → ℝ) (r t : ℕ) : 0 < ex q k r t := by unfold ex; positivity

/-- A block of 512 rows read out of the keys. -/
theorem ld_keys (x1 : Vec Ideal S2048x256 .bf16) {k : ℕ → ℕ → ℝ} (hK : Is2 (n0 := 2048) (n1 := 256) x1 k) (off : Fin 2 → ℕ)
    (inb : ∀ a, off a + S512x256.size a ≤ S2048x256.size a) (b : ℕ) (ho : off = ![b, 0]) :
    Is2 (n0 := 512) (n1 := 256) (View.ld x1 (Rect.unit (s := S2048x256) off S512x256.size inb)) (fun t n => k (b + t) n) := by
  subst ho
  intro t n
  have hb : b + 512 ≤ 2048 := inb 0
  refine Eq.trans ?_ (hK ⟨b + t.val, by omega⟩ n)
  refine congrArg x1 (funext fun a => Fin.ext ?_)
  match a with
  | ⟨0, _⟩ => show b + 1 * t.val = b + t.val; omega
  | ⟨1, _⟩ => show 0 + 1 * n.val = n.val; omega

/-- A block of 512 rows read out of the values. -/
theorem ld_vals (x2 : Vec Ideal S2048x128 .bf16) {v : ℕ → ℕ → ℝ} (hV : Is2 (n0 := 2048) (n1 := 128) x2 v) (off : Fin 2 → ℕ)
    (inb : ∀ a, off a + S512x128.size a ≤ S2048x128.size a) (b : ℕ) (ho : off = ![b, 0]) :
    Is2 (n0 := 512) (n1 := 128) (View.ld x2 (Rect.unit (s := S2048x128) off S512x128.size inb)) (fun t n => v (b + t) n) := by
  subst ho
  intro t n
  have hb : b + 512 ≤ 2048 := inb 0
  refine Eq.trans ?_ (hV ⟨b + t.val, by omega⟩ n)
  refine congrArg x2 (funext fun a => Fin.ext ?_)
  match a with
  | ⟨0, _⟩ => show b + 1 * t.val = b + t.val; omega
  | ⟨1, _⟩ => show 0 + 1 * n.val = n.val; omega

/-- The two sums before pass `n`: over the first `512 n` keys. -/
theorem sums_eq (c : Dev nD) (t : Fin cfg3.N) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .bf16) (harg5 : arg5.IsWhole)
    (x0 : Vec Ideal S256x256 .bf16) (x1 : Vec Ideal S2048x256 .bf16) (x2 : Vec Ideal S2048x128 .bf16) {q k v : ℕ → ℕ → ℝ}
    (hQ : Is2 (n0 := 256) (n1 := 256) x0 q) (hK : Is2 (n0 := 2048) (n1 := 256) x1 k) (hV : Is2 (n0 := 2048) (n1 := 128) x2 v) :
    ∀ n, n ≤ (k3_t1_loop (grid3.coords t)).trips →
      Is2 (n0 := 256) (n1 := 1) (sums c (grid3.coords t) arg2 harg2 arg3 harg3 arg4 harg4 arg5 harg5 x0 x1 x2 n).1
        (fun r _ => ∑ s ∈ Finset.range (n * 512), ex q k r s)
      ∧ Is2 (n0 := 256) (n1 := 128) (sums c (grid3.coords t) arg2 harg2 arg3 harg3 arg4 harg4 arg5 harg5 x0 x1 x2 n).2
        (fun r e => ∑ s ∈ Finset.range (n * 512), ex q k r s * v s e)
  | 0, _ => by
    unfold sums
    rw [st_k3_t1_zero]
    refine ⟨fun i j => (pay3 i j).trans ?_, fun i j => (pay4 i j).trans ?_⟩ <;> simp
  | n + 1, h => by
    obtain ⟨h1, h2⟩ := sums_eq c t arg2 harg2 arg3 harg3 arg4 harg4 arg5 harg5 x0 x1 x2 hQ hK hV n (by omega)
    have e : sums c (grid3.coords t) arg2 harg2 arg3 harg3 arg4 harg4 arg5 harg5 x0 x1 x2 (n + 1) = _ :=
      (st_k3_t1_succ (F := Ideal) Variants.none c none (grid3.coords t) arg2 harg2 arg3 harg3 arg4 harg4 arg5 harg5 x0 (harg3.unread x1) (harg4.unread x2) (k3_pay3, k3_pay4) ⟨n, h⟩).trans
        (trip1 Variants.none c none (grid3.coords t) arg2 harg2 arg3 harg3 arg4 harg4 arg5 harg5 x0 x1 x2 ⟨n, h⟩ _)
    rw [e]
    have hk := ld_keys x1 hK _ (k3_off1_inb (grid3.coords t) ⟨n, h⟩) (n * 512) (off3 t ⟨n, h⟩).1
    have hv := ld_vals x2 hV _ (k3_off2_inb (grid3.coords t) ⟨n, h⟩) (n * 512) (off3 t ⟨n, h⟩).2
    have hp := pay5 _ _ hQ hk
    refine ⟨fun i j => (pay6 _ _ _ hp h1 i j).trans ?_, fun i j => (pay7 _ _ _ _ hp h2 hv i j).trans ?_⟩
    · beta_reduce
      rw [Nat.add_mul, Nat.one_mul, Finset.sum_range_add, Finset.sum_range (n := 512)]
      rfl
    · beta_reduce
      rw [Nat.add_mul, Nat.one_mul, Finset.sum_range_add, Finset.sum_range (n := 512)]
      rfl

/-- What a point of the call leaves: each of its rows the weighted mean of the values over the keys up to the row. -/
theorem out3_val (c : Dev nD) (t : Fin cfg3.N) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .bf16) (harg5 : arg5.IsWhole)
    (x0 : Vec Ideal S256x256 .bf16) (x1 : Vec Ideal S2048x256 .bf16) (x2 : Vec Ideal S2048x128 .bf16) {q k v : ℕ → ℕ → ℝ}
    (hQ : Is2 (n0 := 256) (n1 := 256) x0 q) (hK : Is2 (n0 := 2048) (n1 := 256) x1 k) (hV : Is2 (n0 := 2048) (n1 := 128) x2 v) :
    Is2 (n0 := 256) (n1 := 128) (out3_A_3 (F := Ideal) c (grid3.coords t) arg2 harg2 arg3 harg3 arg4 harg4 arg5 harg5 x0 x1 x2)
      (fun r e => (∑ s ∈ Finset.range (t.val % 8 * 256 + r + 1), ex q k r s * v s e)
        / ∑ s ∈ Finset.range (t.val % 8 * 256 + r + 1), ex q k r s) := by
  intro i j
  obtain ⟨w1, w2, w3, w4, w5, w6⟩ := word3 t
  have hi := i.isLt
  rw [out3_eq _ _ _ _ _ _ _ _ _ _ _ _ _ w3, w4, w1]
  obtain ⟨hL, hA⟩ := sums_eq c t arg2 harg2 arg3 harg3 arg4 harg4 arg5 harg5 x0 x1 x2 hQ hK hV _ le_rfl
  have hk := ld_keys x1 hK _ (k3_off5_inb (grid3.coords t)) (t.val % 8 / 2 * 512) w5
  have hv := ld_vals x2 hV _ (k3_off6_inb (grid3.coords t)) (t.val % 8 / 2 * 512) w6
  have hq2 : Is2 (k3_pay2 (F := Ideal) x0) q := fun a b => by
    refine Eq.trans ?_ (hQ a b)
    pointwise [k3_pay2]
  have hk2 : Is2 (k3_pay11 (F := Ideal) (View.ld x1 (Rect.unit (s := S2048x256) (k3_off5 (grid3.coords t)) S512x256.size (k3_off5_inb (grid3.coords t)))))
      (fun s n => k (t.val % 8 / 2 * 512 + s) n) := fun a b => by
    refine Eq.trans ?_ (hk a b)
    pointwise [k3_pay11]
  refine (pay_last _ _ _ _ _ (t.val % 8) (t.val % 8 / 2) (by omega) (by omega) (by omega) hq2 hk2 hL hA hv
    (fun r => Finset.sum_nonneg fun s _ => (ex_pos q k r s).le) i j).trans ?_
  rw [w2]
  beta_reduce
  refine congrArg (fun z : ℝ => (z : EReal)) (congrArg₂ (fun y z : ℝ => y / z) ?_ ?_)
  · rw [← split_sum (fun s => ex q k i.val s * v s j.val) (t.val % 8 / 2 * 512) _ (by omega) (by omega)]
    refine congrArg₂ _ rfl (Finset.sum_congr rfl fun s _ => ?_)
    rw [ite_mul, zero_mul]; rfl
  · rw [← split_sum (fun s => ex q k i.val s) (t.val % 8 / 2 * 512) _ (by omega) (by omega)]
    rfl

/-- The array the fourth call leaves: per head of 128 columns the attention of every row. -/
theorem region3 (c : Dev nD) {q k v : ℕ → ℕ → ℝ} (hQ : Is2 (n0 := 2048) (n1 := 4096) (V c main_v47) q)
    (hK : Is2 (n0 := 2048) (n1 := 4096) (V c main_v50_0) k) (hV : Is2 (n0 := 2048) (n1 := 2048) (V c main_v50_1) v) :
    Is2 (n0 := 2048) (n1 := 2048) ((dat3 V c).arrAt 3 cfg3.N)
      (fun r n => (∑ s ∈ Finset.range (r + 1), ex (fun r d => q r (n / 128 * 256 + d)) (fun r d => k r (n / 128 * 256 + d)) r s * v s n)
        / ∑ s ∈ Finset.range (r + 1), ex (fun r d => q r (n / 128 * 256 + d)) (fun r d => k r (n / 128 * 256 + d)) r s) := by
  intro i j
  refine congrFun ((dat3 V c).arrAt_eq_of_covers 3 (fun y : S2048x2048.Idx =>
    (((fun r n => (∑ s ∈ Finset.range (r + 1), ex (fun r d => q r (n / 128 * 256 + d)) (fun r d => k r (n / 128 * 256 + d)) r s * v s n)
        / ∑ s ∈ Finset.range (r + 1), ex (fun r d => q r (n / 128 * 256 + d)) (fun r d => k r (n / 128 * 256 + d)) r s) (y 0).val (y 1).val : ℝ) : EReal))
    (by decide +kernel) fun t hf y => ?_) (ix2 i j)
  blk_simp
  rw [after3_3]; unfold outsAt3
  have ht := (idx3 t).2.2.2.2
  have hq : Is2 (n0 := 256) (n1 := 256) (iblk3 V c 0 t) (fun r d => q (t.val % 8 * 256 + r) (t.val / 8 * 256 + d)) := fun a b => by
    refine Eq.trans ?_ (hQ ⟨t.val % 8 * 256 + a.val, by omega⟩ ⟨t.val / 8 * 256 + b.val, by omega⟩)
    blk_ext [iblk3, idx3 t]
  have hk : Is2 (n0 := 2048) (n1 := 256) (iblk3 V c 1 t) (fun r d => k r (t.val / 8 * 256 + d)) := fun a b => by
    refine Eq.trans ?_ (hK a ⟨t.val / 8 * 256 + b.val, by omega⟩)
    blk_ext [iblk3, idx3 t]
  have hv : Is2 (n0 := 2048) (n1 := 128) (iblk3 V c 2 t) (fun r d => v r (t.val / 8 * 128 + d)) := fun a b => by
    refine Eq.trans ?_ (hV a ⟨t.val / 8 * 128 + b.val, by omega⟩)
    blk_ext [iblk3, idx3 t]
  obtain ⟨a, b, rfl⟩ : ∃ (a : Fin 256) (b : Fin 128), y = ix2 a b := ⟨y 0, y 1, eq_ix2 y⟩
  refine (out3_val c t _ _ _ _ _ _ _ _ _ _ _ hq hk hv a b).trans ?_
  have hb : (t.val / 8 * 128 + b.val) / 128 = t.val / 8 := by omega
  simp [idx3 t, hb]
  rfl

end Cert.Mla

end
-- ==== Proof.Match.lean ====
/-
  The kernel's layout of queries, keys and values, read as the layer's formulas: what the first calls leave is the
  layer's queries (scaled), keys and values per head, and what the attention call forms from them is the layer's attention.
-/
module

public import proofs.«01_k».proof.Proof.Region1
public import proofs.«01_k».proof.Proof.Region2
public import proofs.«01_k».proof.Proof.Region3

@[expose] public section

set_option maxRecDepth 16384

noncomputable section

namespace Cert.Mla

open scoped BigOperators

namespace In

variable (I : In)

/-- The query weights with 64 zero rows after each head's 192. -/
def wqbK (n k : ℕ) : ℝ := if n % 256 < 192 then I.wqb (n / 256 * 192 + n % 256) k else 0

/-- The table the queries are multiplied by. -/
def cosQ (r n : ℕ) : ℝ := if n % 256 < 128 then 1 else if n % 256 < 192 then I.cos r ((n % 256 - 128) / 2) else 1

/-- The table the queries' other entries are multiplied by. -/
def sinQ (r n : ℕ) : ℝ :=
  if n % 256 < 128 then 0 else if n % 256 < 192 then I.sin r ((n % 256 - 128) / 2) * (if n % 2 = 0 then -1 else 1) else 0

/-- The key-value weights with the keys' rows of all heads first and the values' rows after them. -/
def wkvbK (n k : ℕ) : ℝ :=
  if n < 2048 then I.wkvb (n / 128 * 256 + n % 128) k else I.wkvb ((n - 2048) / 128 * 256 + 128 + (n - 2048) % 128) k

/-- The table the key-value projection is multiplied by. -/
def cosK (r n : ℕ) : ℝ := if n < 512 then 1 else I.cos r ((n - 512) / 2)

/-- The table the key-value projection's other entries are multiplied by. -/
def sinK (r n : ℕ) : ℝ := if n < 512 then 0 else I.sin r ((n - 512) / 2) * (if n % 2 = 0 then -1 else 1)

/-- What the second call leaves. -/
def qK (r n : ℕ) : ℝ := pairs (fun n => (∑ k : Fin 1536, I.lat r k * I.wqbK n k) * scl) (I.cosQ r) (I.sinQ r) n

/-- What the third call leaves as keys. -/
def kK (r n : ℕ) : ℝ := keysAt I.x I.wkva I.gkv I.wkvbK I.cosK I.sinK r n

/-- What the third call leaves as values. -/
def vK (r n : ℕ) : ℝ := upr I.x I.wkva I.gkv I.wkvbK r (2048 + n)

/-- A column of the padded query product. -/
theorem proj_pad (r h d : ℕ) (hd : d < 256) :
    (∑ k : Fin 1536, I.lat r k * I.wqbK (h * 256 + d) k) = if d < 192 then I.qraw r (h * 192 + d) else 0 := by
  have e1 : (h * 256 + d) % 256 = d := by omega
  have e2 : (h * 256 + d) / 256 = h := by omega
  unfold wqbK qraw
  rw [e1, e2]
  split_ifs
  · rfl
  · simp

/-- The kernel's queries: the layer's, times the scale, and zeros in the padding. -/
theorem qK_eq (r h d : ℕ) (hd : d < 256) : I.qK r (h * 256 + d) = scl * (if d < 192 then I.qf r h d else 0) := by
  have e1 : (h * 256 + d) % 256 = d := by omega
  have e2 : (h * 256 + d) % 2 = d % 2 := by omega
  unfold qK pairs
  beta_reduce
  rw [I.proj_pad r h d hd]
  unfold cosQ sinQ
  rw [e1, e2]
  by_cases h1 : d < 128
  · rw [if_pos h1, if_pos h1, if_pos (by omega : d < 192), if_pos (by omega : d < 192), qf, if_pos h1]
    ring
  by_cases h2 : d < 192
  · rw [if_neg h1, if_neg h1, if_pos h2, if_pos h2, if_pos h2, if_pos h2, qf, if_neg h1, rot]
    beta_reduce
    have e0 : h * 192 + 128 + (d - 128) = h * 192 + d := by omega
    by_cases h3 : d % 2 = 0
    · have e3 : (h * 256 + d + 1) = h * 256 + (d + 1) := by omega
      have e4 : h * 192 + 128 + (d - 128 + 1) = h * 192 + (d + 1) := by omega
      rw [if_pos h3, if_pos h3, if_pos (by omega : (d - 128) % 2 = 0), e3, I.proj_pad r h (d + 1) (by omega),
        if_pos (by omega : d + 1 < 192), e0, e4]
      ring
    · have e3 : (h * 256 + d - 1) = h * 256 + (d - 1) := by omega
      have e4 : h * 192 + 128 + (d - 128 - 1) = h * 192 + (d - 1) := by omega
      rw [if_neg h3, if_neg h3, if_neg (by omega : ¬ (d - 128) % 2 = 0), e3, I.proj_pad r h (d - 1) (by omega),
        if_pos (by omega : d - 1 < 192), e0, e4]
      ring
  · rw [if_neg h1, if_neg h1, if_neg h2, if_neg h2, if_neg h2, if_neg h2]
    ring

/-- A key column of the rearranged key-value product. -/
theorem upr_key (r h d : ℕ) (hh : h < 16) (hd : d < 128) :
    upr I.x I.wkva I.gkv I.wkvbK r (h * 128 + d) = I.kvb r (h * 256 + d) := by
  have e1 : (h * 128 + d) / 128 = h := by omega
  have e2 : (h * 128 + d) % 128 = d := by omega
  have e3 : h * 128 + d < 2048 := by omega
  unfold upr wkvbK kvb
  refine Finset.sum_congr rfl fun k _ => ?_
  rw [if_pos e3, e1, e2]
  rfl

/-- The kernel's keys: the layer's, and zeros in the padding. -/
theorem kK_eq (r h d : ℕ) (hh : h < 16) (hd : d < 256) : I.kK r (h * 256 + d) = if d < 192 then I.kf r h d else 0 := by
  have e1 : (h * 256 + d) % 256 = d := by omega
  have e2 : (h * 256 + d) / 256 = h := by omega
  unfold kK keysAt
  rw [e1, e2]
  by_cases h1 : d < 128
  · rw [if_pos h1, if_pos (by omega : d < 192), kf, if_pos h1]
    exact I.upr_key r h d hh h1
  by_cases h2 : d < 192
  · rw [if_neg h1, if_pos h2, if_pos h2, kf, if_neg h1, kpe, rot, pairs, cosK, sinK]
    beta_reduce
    rw [if_neg (by omega : ¬ 512 + (d - 128) < 512), if_neg (by omega : ¬ 512 + (d - 128) < 512)]
    have e3 : 512 + (d - 128) - 512 = d - 128 := by omega
    rw [e3]
    by_cases h3 : d % 2 = 0
    · rw [if_pos (by omega : (512 + (d - 128)) % 2 = 0), if_pos (by omega : (512 + (d - 128)) % 2 = 0),
        if_pos (by omega : (d - 128) % 2 = 0)]
      unfold kvraw
      rw [Nat.add_assoc 512 (d - 128) 1]
      ring
    · have e4 : 512 + (d - 128) - 1 = 512 + (d - 128 - 1) := by omega
      rw [if_neg (by omega : ¬ (512 + (d - 128)) % 2 = 0), if_neg (by omega : ¬ (512 + (d - 128)) % 2 = 0),
        if_neg (by omega : ¬ (d - 128) % 2 = 0), e4]
      unfold kvraw
      ring
  · rw [if_neg h1, if_neg h2, if_neg h2]

/-- The kernel's values are the layer's. -/
theorem vK_eq (r n : ℕ) : I.vK r n = I.vf r (n / 128) (n % 128) := by
  have e1 : ¬ 2048 + n < 2048 := by omega
  have e2 : 2048 + n - 2048 = n := by omega
  unfold vK upr wkvbK vf kvb
  refine Finset.sum_congr rfl fun k _ => ?_
  rw [if_neg e1, e2]
  rfl

/-- The score the kernel forms over 256 entries is the layer's over 192, times the scale. -/
theorem score_eq (r h t : ℕ) (hh : h < 16) :
    (∑ d : Fin 256, I.qK r (h * 256 + d) * I.kK t (h * 256 + d)) = scl * I.sc r h t := by
  have e : ∀ d : Fin 256, I.qK r (h * 256 + d) * I.kK t (h * 256 + d)
      = (fun d : ℕ => if d < 192 then scl * (I.qf r h d * I.kf t h d) else 0) d := by
    intro d
    rw [I.qK_eq r h d d.isLt, I.kK_eq t h d hh d.isLt]
    beta_reduce
    split_ifs <;> ring
  rw [Finset.sum_congr rfl fun d _ => e d, Fin.sum_univ_eq_sum_range (fun d : ℕ => if d < 192 then scl * (I.qf r h d * I.kf t h d) else 0) 256,
    ← Finset.sum_subset (Finset.range_mono (by decide : 192 ≤ 256)) (fun d _ hd => if_neg (by simpa using hd)), sc,
    Fin.sum_univ_eq_sum_range (fun d : ℕ => I.qf r h d * I.kf t h d) 192, Finset.mul_sum]
  exact Finset.sum_congr rfl fun d hd => if_pos (Finset.mem_range.mp hd)

/-- The kernel's weight, a power of two, is the layer's, a power of e. -/
theorem ex_eq (r h t : ℕ) (hh : h < 16) :
    ex (fun r d => I.qK r (h * 256 + d)) (fun r d => I.kK r (h * 256 + d)) r t = I.wt r h t := by
  have hl : Real.log 2 ≠ 0 := (Real.log_pos (by norm_num)).ne'
  unfold ex wt
  rw [I.score_eq r h t hh, Real.rpow_def_of_pos (by norm_num), scl]
  congr 1
  field_simp

/-- What the attention call leaves is the layer's attention. -/
theorem att_eq (r n : ℕ) (hn : n < 2048) :
    (∑ s ∈ Finset.range (r + 1), ex (fun r d => I.qK r (n / 128 * 256 + d)) (fun r d => I.kK r (n / 128 * 256 + d)) r s * I.vK s n)
        / ∑ s ∈ Finset.range (r + 1), ex (fun r d => I.qK r (n / 128 * 256 + d)) (fun r d => I.kK r (n / 128 * 256 + d)) r s
      = I.att r (n / 128) (n % 128) := by
  have hh : n / 128 < 16 := by omega
  unfold att
  congr 1
  · exact Finset.sum_congr rfl fun s _ => by rw [I.ex_eq r _ s hh, I.vK_eq]
  · exact Finset.sum_congr rfl fun s _ => by rw [I.ex_eq r _ s hh]

end In

end Cert.Mla

end
-- ==== Proof.Host.lean ====
/-
  What the host operations before and between the calls leave in the arrays the calls read.
-/
module

public import proofs.«01_k».proof.Proof.Base
public import proofs.«01_k».proof.Proof.Gen.KernelIdeal.Frame
public import Idealize.ShloMosaic.Lib.Pipeline.ValueKit
public import Idealize.ShloMosaic.Lib.StableHlo.ReadAt

@[expose] public section

set_option maxRecDepth 16384

noncomputable section

namespace Cert.Mla

open Idealize.ShloMosaic Idealize.ShloMosaic.TcCoe Idealize.SL.Sem
open Idealize.ShloMosaic.Pipeline (Dat)
open Cert.KernelIdeal Cert.KernelIdeal.Gen
open scoped BigOperators

variable (V0 : Valuation τ sig (Elt Ideal))

/-- The first call's input is the argument without its leading axis. -/
theorem host_x (x : ℕ → ℕ → ℝ)
    (hx : Is3 (n0 := 1) (n1 := 2048) (n2 := 2048) (V0 (Proc.devRef .tc main_arg0)) fun _ => x) :
    Is2 (n0 := 2048) (n1 := 2048) (StableHlo.after hostOps0 V0 (Proc.devRef .tc main_v1)) x := by
  intro i j
  after_reads_at
  simp [hx _ _ _]

/-- The alternating signs. -/
theorem sign_word (k : Fin 2) : Ideal.ofBits .f32 (lit0 (S2.rowMajor (ix1 k))) = (((if k.val = 0 then -1 else 1 : ℝ)) : EReal) := by
  have h : lit0 (S2.rowMajor (ix1 k)) = if k.val = 0 then 0xBF800000#32 else 0x3F800000#32 := by fin_cases k <;> rfl
  rw [h]
  split_ifs
  · exact ofBits_neg_one
  · simp [Ideal.ofBits, Ideal.ieee, -EReal.coe_mul]; norm_num

/-- The cosine table of the queries: per head ones, the cosines each twice, ones. -/
theorem host_cos (cs : ℕ → ℕ → ℝ)
    (hc : Is2 (n0 := 2048) (n1 := 32) (V0 (Proc.devRef .tc main_arg1)) cs) :
    Is2 (n0 := 2048) (n1 := 4096) (StableHlo.after hostOps0 V0 (Proc.devRef .tc main_v20)) (fun r n =>
      if n % 256 < 128 then 1 else if n % 256 < 192 then cs r ((n % 256 - 128) / 2) else 1) := by
  intro i j
  after_reads_at
  by_cases h1 : j.val % 256 < 128
  · refine (dif_pos h1).trans (Eq.trans ?_ (congrArg (fun z : ℝ => (z : EReal)) (if_pos h1).symm))
    after_reads_at
    simp
  refine (dif_neg h1).trans (Eq.trans ?_ (congrArg (fun z : ℝ => (z : EReal)) (if_neg h1).symm))
  by_cases h2 : j.val % 256 < 192
  · have h3 : j.val % 256 - 128 < 64 := by omega
    refine (dif_pos h3).trans (Eq.trans ?_ (congrArg (fun z : ℝ => (z : EReal)) (if_pos h2).symm))
    after_reads_at
    simp [hc _ _]
  · have h3 : ¬ j.val % 256 - 128 < 64 := by omega
    refine (dif_neg h3).trans (Eq.trans ?_ (congrArg (fun z : ℝ => (z : EReal)) (if_neg h2).symm))
    after_reads_at
    simp

/-- The signed sine table of the queries: per head zeros, the sines each twice with alternating sign, zeros. -/
theorem host_sin (sn : ℕ → ℕ → ℝ)
    (hc : Is2 (n0 := 2048) (n1 := 32) (V0 (Proc.devRef .tc main_arg2)) sn) :
    Is2 (n0 := 2048) (n1 := 4096) (StableHlo.after hostOps0 V0 (Proc.devRef .tc main_v25)) (fun r n =>
      if n % 256 < 128 then 0 else if n % 256 < 192 then sn r ((n % 256 - 128) / 2) * (if n % 2 = 0 then -1 else 1) else 0) := by
  intro i j
  after_reads_at
  by_cases h1 : j.val % 256 < 128
  · refine (dif_pos h1).trans (Eq.trans ?_ (congrArg (fun z : ℝ => (z : EReal)) (if_pos h1).symm))
    after_reads_at
    simp
  refine (dif_neg h1).trans (Eq.trans ?_ (congrArg (fun z : ℝ => (z : EReal)) (if_neg h1).symm))
  by_cases h2 : j.val % 256 < 192
  · have h3 : j.val % 256 - 128 < 64 := by omega
    refine (dif_pos h3).trans (Eq.trans ?_ (congrArg (fun z : ℝ => (z : EReal)) (if_pos h2).symm))
    after_reads_at
    have e : (j.val % 256 - 128) % 2 = j.val % 2 := by omega
    simp only [hc _ _, sign_word, ← EReal.coe_mul, e]
  · have h3 : ¬ j.val % 256 - 128 < 64 := by omega
    refine (dif_neg h3).trans (Eq.trans ?_ (congrArg (fun z : ℝ => (z : EReal)) (if_neg h2).symm))
    after_reads_at
    simp

/-- The query weights by heads, each head's rows followed by 64 rows of zeros. -/
theorem host_wqb (w : ℕ → ℕ → ℝ)
    (hc : Is2 (n0 := 3072) (n1 := 1536) (V0 (Proc.devRef .tc main_arg6)) w) :
    Is2 (n0 := 4096) (n1 := 1536) (StableHlo.after hostOps0 V0 (Proc.devRef .tc main_v36)) (fun n k =>
      if n % 256 < 192 then w (n / 256 * 192 + n % 256) k else 0) := by
  intro i j
  after_reads_at
  by_cases h1 : i.val % 256 < 192
  · refine (dif_pos h1).trans (Eq.trans ?_ (congrArg (fun z : ℝ => (z : EReal)) (if_pos h1).symm))
    after_reads_at
    simp [hc _ _]
  · refine (dif_neg h1).trans (Eq.trans ?_ (congrArg (fun z : ℝ => (z : EReal)) (if_neg h1).symm))
    after_reads_at
    simp

/-- The up-projection's weights: first every head's keys, then every head's values. -/
theorem host_wkvb (w : ℕ → ℕ → ℝ)
    (hc : Is2 (n0 := 4096) (n1 := 512) (V0 (Proc.devRef .tc main_arg9)) w) :
    Is2 (n0 := 4096) (n1 := 512) (StableHlo.after hostOps0 V0 (Proc.devRef .tc main_v43)) (fun n k =>
      if n < 2048 then w (n / 128 * 256 + n % 128) k else w ((n - 2048) / 128 * 256 + 128 + (n - 2048) % 128) k) := by
  intro i j
  after_reads_at
  by_cases h1 : i.val < 2048
  · refine (dif_pos h1).trans (Eq.trans ?_ (congrArg (fun z : ℝ => (z : EReal)) (if_pos h1).symm))
    after_reads_at
    simp [hc _ _]
  · refine (dif_neg h1).trans (Eq.trans ?_ (congrArg (fun z : ℝ => (z : EReal)) (if_neg h1).symm))
    after_reads_at
    simp [hc _ _, Nat.add_assoc]

/-- The cosine table of the keys: ones over the latent, then the cosines each twice. -/
theorem host_kcos (cs : ℕ → ℕ → ℝ)
    (hc : Is2 (n0 := 2048) (n1 := 32) (V0 (Proc.devRef .tc main_arg1)) cs) :
    Is2 (n0 := 2048) (n1 := 576) (StableHlo.after hostOps0 V0 (Proc.devRef .tc main_v28)) (fun r n =>
      if n < 512 then 1 else cs r ((n - 512) / 2)) := by
  intro i j
  after_reads_at
  by_cases h1 : j.val < 512
  · refine (dif_pos h1).trans (Eq.trans ?_ (congrArg (fun z : ℝ => (z : EReal)) (if_pos h1).symm))
    after_reads_at
    simp
  · refine (dif_neg h1).trans (Eq.trans ?_ (congrArg (fun z : ℝ => (z : EReal)) (if_neg h1).symm))
    after_reads_at
    simp [hc _ _]

/-- The signed sine table of the keys: zeros over the latent, then the sines each twice with alternating sign. -/
theorem host_ksin (sn : ℕ → ℕ → ℝ)
    (hc : Is2 (n0 := 2048) (n1 := 32) (V0 (Proc.devRef .tc main_arg2)) sn) :
    Is2 (n0 := 2048) (n1 := 576) (StableHlo.after hostOps0 V0 (Proc.devRef .tc main_v31)) (fun r n =>
      if n < 512 then 0 else sn r ((n - 512) / 2) * (if n % 2 = 0 then -1 else 1)) := by
  intro i j
  after_reads_at
  by_cases h1 : j.val < 512
  · refine (dif_pos h1).trans (Eq.trans ?_ (congrArg (fun z : ℝ => (z : EReal)) (if_pos h1).symm))
    after_reads_at
    simp
  · refine (dif_neg h1).trans (Eq.trans ?_ (congrArg (fun z : ℝ => (z : EReal)) (if_neg h1).symm))
    after_reads_at
    rw [hc _ _, sign_word, ← EReal.coe_mul]
    simp only [show (j.val - 512) % 2 = j.val % 2 by omega]

/-- The first query weights as given. -/
theorem host_wqa (w : ℕ → ℕ → EReal)
    (hc : Val2 (n0 := 1536) (n1 := 2048) (V0 (Proc.devRef .tc main_arg4)) w) :
    Val2 (n0 := 1536) (n1 := 2048) (StableHlo.after hostOps0 V0 (Proc.devRef .tc main_v44)) w := by
  intro i j
  after_reads_at
  exact hc i j

/-- The query normalization's gains as one row. -/
theorem host_gqa (g : ℕ → ℝ)
    (hc : Is1 (n0 := 1536) (V0 (Proc.devRef .tc main_arg5)) g) :
    Is2 (n0 := 1) (n1 := 1536) (StableHlo.after hostOps0 V0 (Proc.devRef .tc main_v45)) (fun _ => g) := by
  intro i j
  after_reads_at
  simp [hc _]

/-- The first key and value weights as given. -/
theorem host_wkva (w : ℕ → ℕ → ℝ)
    (hc : Is2 (n0 := 576) (n1 := 2048) (V0 (Proc.devRef .tc main_arg7)) w) :
    Is2 (n0 := 576) (n1 := 2048) (StableHlo.after hostOps2 V0 (Proc.devRef .tc main_v48)) w := by
  intro i j
  after_reads_at
  exact hc i j

/-- The latent's gains as one row. -/
theorem host_gkv (g : ℕ → ℝ)
    (hc : Is1 (n0 := 512) (V0 (Proc.devRef .tc main_arg8)) g) :
    Is2 (n0 := 1) (n1 := 512) (StableHlo.after hostOps2 V0 (Proc.devRef .tc main_v49)) (fun _ => g) := by
  intro i j
  after_reads_at
  simp [hc _]

/-- The output weights as given. -/
theorem host_wo (w : ℕ → ℕ → EReal)
    (hc : Val2 (n0 := 2048) (n1 := 2048) (V0 (Proc.devRef .tc main_arg10)) w) :
    Val2 (n0 := 2048) (n1 := 2048) (StableHlo.after hostOps4 V0 (Proc.devRef .tc main_v52)) w := by
  intro i j
  after_reads_at
  exact hc i j

/-- The result is the last call's with a leading axis. -/
theorem host_out (f : ℕ → ℕ → EReal)
    (hc : Val2 (n0 := 2048) (n1 := 2048) (V0 (Proc.devRef .tc main_v53)) f) :
    Val3 (n0 := 1) (n1 := 2048) (n2 := 2048) (StableHlo.after hostOps5 V0 (Proc.devRef .tc main_v54)) (fun _ => f) := by
  intro i j k
  after_reads_at
  simp [hc _ _]

end Cert.Mla

end
-- ==== Proof.Region0.lean ====
/-
  The first call: the query latent, projected and normalized.
-/
module

public import proofs.«01_k».proof.Proof.Base
public import proofs.«01_k».proof.Proof.Gen.KernelIdeal.Frame
public import Idealize.ShloMosaic.Lib.Pipeline.ValueKit

@[expose] public section

set_option maxRecDepth 16384

noncomputable section

namespace Cert.Mla

open Idealize.ShloMosaic Idealize.ShloMosaic.TcCoe Idealize.SL.Sem
open Idealize.ShloMosaic.Pipeline (Dat)
open Cert.KernelIdeal Cert.KernelIdeal.Gen
open scoped BigOperators

/-- What the first call stores: at row `i` and column `j`, the projected row normalized. -/
theorem pay0 (X : FVec Ideal S256x2048 .bf16) (W : FVec Ideal S1536x2048 .bf16) (G : FVec Ideal S1x1536 .f32)
    {x g : ℕ → ℕ → ℝ} {w : ℕ → ℕ → EReal} (hX : Is2 X x) (hW : Val2 W w) (hG : Is2 G g) :
    Is2 (k0_pay1 (F := Ideal) X W G) (fun r c => rmsE 1536 (fun k => ∑ j : Fin 2048, (x r j : EReal) * w k j) (g 0) c) := by
  intro i j
  pointwise [k0_pay1]
  simp only [hX _ _, hW _ _, hG _ _, ofBits_1536, eps_spec.1]
  exact rmsE_eq (by norm_num) (fun k => ∑ n : Fin 2048, (x i n : EReal) * w k n) (g 0) j

/-- The blocks of the first call: point `t` reads and writes the rows from `256 t`, and the weights whole. -/
theorem idx0 : ∀ t : Fin cfg0.N, win0_0.index t = ![t.val, 0] ∧ win0_1.index t = ![0, 0] ∧ win0_2.index t = ![0, 0]
    ∧ win0_3.index t = ![t.val, 0] ∧ t.val < 8 :=
  (by decide +kernel : ∀ t : Fin grid0.N, _)

variable (V : (c : Dev nD) → (b : Ref sig .tc) → Buf (Elt Ideal) ((c : Thread nD τ).loc b))

/-- The array the first call leaves: the query latent. -/
theorem region0 (c : Dev nD) {x g : ℕ → ℕ → ℝ} {w : ℕ → ℕ → EReal} (hX : Is2 (n0 := 2048) (n1 := 2048) (V c main_v1) x)
    (hW : Val2 (n0 := 1536) (n1 := 2048) (V c main_v44) w) (hG : Is2 (n0 := 1) (n1 := 1536) (V c main_v45) g) :
    Is2 (n0 := 2048) (n1 := 1536) ((dat0 V c).arrAt 3 cfg0.N)
      (fun r c => rmsE 1536 (fun k => ∑ j : Fin 2048, (x r j : EReal) * w k j) (g 0) c) := by
  intro i j
  refine congrFun ((dat0 V c).arrAt_eq_of_covers 3 (fun y : S2048x1536.Idx =>
    ((rmsE 1536 (fun k => ∑ j : Fin 2048, (x (y 0).val j : EReal) * w k j) (g 0) (y 1).val : ℝ) : EReal))
    (by decide +kernel) fun t hf y => ?_) (ix2 i j)
  blk_simp
  rw [after0_3]; frame_out
  have ht := (idx0 t).2.2.2.2
  have hx : Is2 (n0 := 256) (n1 := 2048) (iblk0 V c 0 t) (fun r k => x (t.val * 256 + r) k) := fun a b => by
    refine Eq.trans ?_ (hX ⟨t.val * 256 + a.val, by omega⟩ b)
    blk_ext [iblk0, idx0 t]
  have hw : Val2 (n0 := 1536) (n1 := 2048) (iblk0 V c 1 t) w := fun a b => by
    refine Eq.trans ?_ (hW a b)
    blk_ext [iblk0, idx0 t]
  have hg : Is2 (n0 := 1) (n1 := 1536) (iblk0 V c 2 t) g := fun a b => by
    refine Eq.trans ?_ (hG a b)
    blk_ext [iblk0, idx0 t]
  rw [eq_ix2 y]
  refine (pay0 _ _ _ hx hw hg (y 0) (y 1)).trans ?_
  simp [idx0 t]

end Cert.Mla

end
-- ==== Proof.Region2a.lean ====
module

public import proofs.«01_k».proof.Proof.Region2

@[expose] public section

set_option maxRecDepth 200000

noncomputable section

namespace Cert.Mla

open Idealize.ShloMosaic Idealize.ShloMosaic.TcCoe Idealize.SL.Sem
open Idealize.ShloMosaic.Pipeline (Dat)
open Cert.KernelIdeal Cert.KernelIdeal.Gen
open scoped BigOperators

/-- The projection as the call names it is the product of the two blocks. -/
theorem pay7_eq (X0 : Vec Ideal S256x2048 .bf16) (X1 : Vec Ideal S576x2048 .bf16) (X2 : Vec Ideal S1x512 .f32)
    (X3 : Vec Ideal S4096x512 .bf16) (X4 X5 : Vec Ideal S256x576 .bf16) :
    k2_pay7 (F := Ideal) X0 X1 X2 X3 X4 X5 = k2_pay4 (F := Ideal) X0 X1 := by
  unfold k2_pay7
  rw [View.ld_unit_zero (by decide), View.ld_unit_zero (by decide)]

variable (V : (c : Dev nD) → (b : Ref sig .tc) → Buf (Elt Ideal) ((c : Thread nD τ).loc b))

set_option maxHeartbeats 1000000 in
/-- The first array the third call leaves: the keys. -/
theorem region2_keys (c : Dev nD) {x w g wb cs sn : ℕ → ℕ → ℝ} (hX : Is2 (n0 := 2048) (n1 := 2048) (V c main_v1) x)
    (hW : Is2 (n0 := 576) (n1 := 2048) (V c main_v48) w) (hG : Is2 (n0 := 1) (n1 := 512) (V c main_v49) g)
    (hB : Is2 (n0 := 4096) (n1 := 512) (V c main_v43) wb) (hC : Is2 (n0 := 2048) (n1 := 576) (V c main_v28) cs)
    (hS : Is2 (n0 := 2048) (n1 := 576) (V c main_v31) sn) :
    Is2 (n0 := 2048) (n1 := 4096) ((dat2 V c).arrAt 6 cfg2.N) (keysAt x w (g 0) wb cs sn) := by
  intro i j
  refine congrFun ((dat2 V c).arrAt_eq_of_covers 6 (fun y : S2048x4096.Idx =>
    ((keysAt x w (g 0) wb cs sn (y 0).val (y 1).val : ℝ) : EReal))
    (by decide +kernel) fun t hf y => ?_) (ix2 i j)
  blk_simp
  rw [after2_6]; frame_out; rw [pay7_eq]
  have ht := (idx2 t).2.2.2.2.2.2.2.2
  have hx : Is2 (n0 := 256) (n1 := 2048) (iblk2 V c 0 t) (fun r k => x (t.val * 256 + r) k) := fun a b => by
    refine Eq.trans ?_ (hX ⟨t.val * 256 + a.val, by omega⟩ b)
    blk_ext [iblk2, idx2 t]
  have hw : Is2 (n0 := 576) (n1 := 2048) (iblk2 V c 1 t) w := fun a b => by
    refine Eq.trans ?_ (hW a b)
    blk_ext [iblk2, idx2 t]
  have hg : Is2 (n0 := 1) (n1 := 512) (iblk2 V c 2 t) g := fun a b => by
    refine Eq.trans ?_ (hG a b)
    blk_ext [iblk2, idx2 t]
  have hb : Is2 (n0 := 4096) (n1 := 512) (iblk2 V c 3 t) wb := fun a b => by
    refine Eq.trans ?_ (hB a b)
    blk_ext [iblk2, idx2 t]
  have hc : Is2 (n0 := 256) (n1 := 576) (iblk2 V c 4 t) (fun r k => cs (t.val * 256 + r) k) := fun a b => by
    refine Eq.trans ?_ (hC ⟨t.val * 256 + a.val, by omega⟩ b)
    blk_ext [iblk2, idx2 t]
  have hs : Is2 (n0 := 256) (n1 := 576) (iblk2 V c 5 t) (fun r k => sn (t.val * 256 + r) k) := fun a b => by
    refine Eq.trans ?_ (hS ⟨t.val * 256 + a.val, by omega⟩ b)
    blk_ext [iblk2, idx2 t]
  have hp := pay2_proj _ _ hx hw
  rw [eq_ix2 y]
  refine (pay2_keys _ _ _ _ (pay2_up _ _ _ hp hg hb) (pay2_rot _ _ _ _ hp hc hs) (y 0) (y 1)).trans ?_
  simp [idx2 t, keysAt, upr]

/-- The second array the third call leaves: the values. -/
theorem region2_vals (c : Dev nD) {x w g wb : ℕ → ℕ → ℝ} (hX : Is2 (n0 := 2048) (n1 := 2048) (V c main_v1) x)
    (hW : Is2 (n0 := 576) (n1 := 2048) (V c main_v48) w) (hG : Is2 (n0 := 1) (n1 := 512) (V c main_v49) g)
    (hB : Is2 (n0 := 4096) (n1 := 512) (V c main_v43) wb) :
    Is2 (n0 := 2048) (n1 := 2048) ((dat2 V c).arrAt 7 cfg2.N) (fun r n => upr x w (g 0) wb r (2048 + n)) := by
  intro i j
  refine congrFun ((dat2 V c).arrAt_eq_of_covers 7 (fun y : S2048x2048.Idx =>
    ((upr x w (g 0) wb (y 0).val (2048 + (y 1).val) : ℝ) : EReal))
    (by decide +kernel) fun t hf y => ?_) (ix2 i j)
  blk_simp
  rw [after2_7]; frame_out; rw [pay7_eq]
  have ht := (idx2 t).2.2.2.2.2.2.2.2
  have hx : Is2 (n0 := 256) (n1 := 2048) (iblk2 V c 0 t) (fun r k => x (t.val * 256 + r) k) := fun a b => by
    refine Eq.trans ?_ (hX ⟨t.val * 256 + a.val, by omega⟩ b)
    blk_ext [iblk2, idx2 t]
  have hw : Is2 (n0 := 576) (n1 := 2048) (iblk2 V c 1 t) w := fun a b => by
    refine Eq.trans ?_ (hW a b)
    blk_ext [iblk2, idx2 t]
  have hg : Is2 (n0 := 1) (n1 := 512) (iblk2 V c 2 t) g := fun a b => by
    refine Eq.trans ?_ (hG a b)
    blk_ext [iblk2, idx2 t]
  have hb : Is2 (n0 := 4096) (n1 := 512) (iblk2 V c 3 t) wb := fun a b => by
    refine Eq.trans ?_ (hB a b)
    blk_ext [iblk2, idx2 t]
  rw [eq_ix2 y]
  refine (pay2_vals _ _ _ (pay2_up _ _ _ (pay2_proj _ _ hx hw) hg hb) (y 0) (y 1)).trans ?_
  simp [idx2 t, upr]

end Cert.Mla

end
-- ==== Proof.Region4.lean ====
/-
  The last call: the output projection.
-/
module

public import proofs.«01_k».proof.Proof.Base
public import proofs.«01_k».proof.Proof.Gen.KernelIdeal.Frame
public import Idealize.ShloMosaic.Lib.Pipeline.ValueKit

@[expose] public section

set_option maxRecDepth 16384

noncomputable section

namespace Cert.Mla

open Idealize.ShloMosaic Idealize.ShloMosaic.TcCoe Idealize.SL.Sem
open Idealize.ShloMosaic.Pipeline (Dat)
open Cert.KernelIdeal Cert.KernelIdeal.Gen
open scoped BigOperators

/-- What the last call stores: the product with the output weights. -/
theorem pay_out (X : FVec Ideal S256x2048 .bf16) (W : FVec Ideal S2048x2048 .bf16)
    {x : ℕ → ℕ → ℝ} {w : ℕ → ℕ → EReal} (hX : Is2 X x) (hW : Val2 W w) :
    Val2 (k4_pay1 (F := Ideal) X W) (fun r c => ∑ n : Fin 2048, (x r n : EReal) * w c n) := by
  intro i j
  pointwise [k4_pay1]
  simp only [hX _ _, hW _ _]

/-- The blocks of the last call: point `t` reads and writes the rows from `256 t`, and the weights whole. -/
theorem idx4 : ∀ t : Fin cfg4.N, win4_0.index t = ![t.val, 0] ∧ win4_1.index t = ![0, 0] ∧ win4_2.index t = ![t.val, 0]
    ∧ t.val < 8 :=
  (by decide +kernel : ∀ t : Fin grid4.N, _)

variable (V : (c : Dev nD) → (b : Ref sig .tc) → Buf (Elt Ideal) ((c : Thread nD τ).loc b))

/-- The array the last call leaves: the projected attention. -/
theorem region4 (c : Dev nD) {x : ℕ → ℕ → ℝ} {w : ℕ → ℕ → EReal} (hX : Is2 (n0 := 2048) (n1 := 2048) (V c main_v51) x)
    (hW : Val2 (n0 := 2048) (n1 := 2048) (V c main_v52) w) :
    Val2 (n0 := 2048) (n1 := 2048) ((dat4 V c).arrAt 2 cfg4.N) (fun r c => ∑ n : Fin 2048, (x r n : EReal) * w c n) := by
  intro i j
  refine congrFun ((dat4 V c).arrAt_eq_of_covers 2 (fun y : S2048x2048.Idx =>
    (∑ n : Fin 2048, (x (y 0).val n : EReal) * w (y 1).val n : EReal))
    (by decide +kernel) fun t hf y => ?_) (ix2 i j)
  blk_simp
  rw [after4_2]; frame_out
  have ht := (idx4 t).2.2.2
  have hx : Is2 (n0 := 256) (n1 := 2048) (iblk4 V c 0 t) (fun r k => x (t.val * 256 + r) k) := fun a b => by
    refine Eq.trans ?_ (hX ⟨t.val * 256 + a.val, by omega⟩ b)
    blk_ext [iblk4, idx4 t]
  have hw : Val2 (n0 := 2048) (n1 := 2048) (iblk4 V c 1 t) w := fun a b => by
    refine Eq.trans ?_ (hW a b)
    blk_ext [iblk4, idx4 t]
  rw [eq_ix2 y]
  refine (pay_out _ _ hx hw (y 0) (y 1)).trans ?_
  simp [idx4 t]

end Cert.Mla

end
-- ==== Proof.KernelVal.lean ====
/-
  The idealized kernel's result: at the last boundary of @main the result array holds the layer's output.
-/
module

public import proofs.«01_k».proof.Proof.Match
public import proofs.«01_k».proof.Proof.Host
public import proofs.«01_k».proof.Proof.Region0
public import proofs.«01_k».proof.Proof.Region2a
public import proofs.«01_k».proof.Proof.Region4

@[expose] public section

set_option maxRecDepth 16384

noncomputable section

namespace Cert.Mla

open Idealize.ShloMosaic Idealize.ShloMosaic.TcCoe Idealize.SL.Sem
open Idealize.ShloMosaic.Pipeline (Dat)
open Cert.KernelIdeal Cert.KernelIdeal.Gen
open scoped BigOperators

variable (m : (ℓ : Loc nD τ sig) → Buf (Elt Ideal) ℓ) (ρ : Dev nD → PrngReg) (c : Dev nD) (I : In)

/-- The arguments in memory hold the layer's inputs. -/
structure Holds : Prop where
  h0 : Is3 (n0 := 1) (n1 := 2048) (n2 := 2048) (m ((c.tc : Thread nD τ).loc main_arg0)) fun _ => I.x
  h1 : Is2 (n0 := 2048) (n1 := 32) (m ((c.tc : Thread nD τ).loc main_arg1)) I.cos
  h2 : Is2 (n0 := 2048) (n1 := 32) (m ((c.tc : Thread nD τ).loc main_arg2)) I.sin
  h4 : Val2 (n0 := 1536) (n1 := 2048) (m ((c.tc : Thread nD τ).loc main_arg4)) I.wqa
  h5 : Is1 (n0 := 1536) (m ((c.tc : Thread nD τ).loc main_arg5)) I.gqa
  h6 : Is2 (n0 := 3072) (n1 := 1536) (m ((c.tc : Thread nD τ).loc main_arg6)) I.wqb
  h7 : Is2 (n0 := 576) (n1 := 2048) (m ((c.tc : Thread nD τ).loc main_arg7)) I.wkva
  h8 : Is1 (n0 := 512) (m ((c.tc : Thread nD τ).loc main_arg8)) I.gkv
  h9 : Is2 (n0 := 4096) (n1 := 512) (m ((c.tc : Thread nD τ).loc main_arg9)) I.wkvb
  h10 : Val2 (n0 := 2048) (n1 := 2048) (m ((c.tc : Thread nD τ).loc main_arg10)) I.wo

variable {m ρ c I} (H : Holds m c I)

include H

/-- After the first call: the query latent. -/
theorem lat_at : Is2 (n0 := 2048) (n1 := 1536) (V2 m ρ c main_v46) I.lat := by
  have h := region0 (V1 m ρ) c (host_x (W0 m ρ c) I.x H.h0) (host_wqa (W0 m ρ c) I.wqa H.h4) (host_gqa (W0 m ρ c) I.gqa H.h5)
  rw [hF0 m ρ c 3] at h
  exact h

/-- After the second call: the scaled queries in the kernel's layout. -/
theorem q_at : Is2 (n0 := 2048) (n1 := 4096) (V3 m ρ c main_v47) I.qK := by
  have e1 : V2 m ρ c main_v36 = V1 m ρ c main_v36 := W2_of m ρ c main_v36 (by decide)
  have e2 : V2 m ρ c main_v20 = V1 m ρ c main_v20 := W2_of m ρ c main_v20 (by decide)
  have e3 : V2 m ρ c main_v25 = V1 m ρ c main_v25 := W2_of m ρ c main_v25 (by decide)
  have h := region1 (V2 m ρ) c (lat_at H) (w := I.wqbK) (cs := I.cosQ) (sn := I.sinQ)
    (by rw [e1]; exact host_wqb (W0 m ρ c) I.wqb H.h6)
    (by rw [e2]; exact host_cos (W0 m ρ c) I.cos H.h1)
    (by rw [e3]; exact host_sin (W0 m ρ c) I.sin H.h2)
  rw [hF1 m ρ c 4] at h
  exact h

omit H in
/-- What an array the third call reads held when the first call began. -/
theorem to_first (r : Ref sig .tc) (h4 : r ∉ hostOps2_W)
    (h3 : ∀ w : Fin cfg1.W, Pipeline.arrRef spec1 w = r → (cfg1.win w).isOut = false)
    (h2 : ∀ w : Fin cfg0.W, Pipeline.arrRef spec0 w = r → (cfg0.win w).isOut = false) : V4 m ρ c r = V1 m ρ c r :=
  (W4_of m ρ c r h4).trans ((W3_of m ρ c r h3).trans (W2_of m ρ c r h2))

/-- The third call's input. -/
theorem x_third : Is2 (n0 := 2048) (n1 := 2048) (V4 m ρ c main_v1) I.x := by
  rw [to_first (m := m) (ρ := ρ) (c := c) main_v1 (by decide) (by decide) (by decide)]
  exact host_x (W0 m ρ c) I.x H.h0

/-- The third call's projection weights. -/
theorem wkva_third : Is2 (n0 := 576) (n1 := 2048) (V4 m ρ c main_v48) I.wkva :=
  host_wkva (W3 m ρ c) I.wkva (by rw [W3_args m ρ c main_arg7 (by decide)]; exact H.h7)

/-- The third call's gains. -/
theorem gkv_third : Is2 (n0 := 1) (n1 := 512) (V4 m ρ c main_v49) (fun _ => I.gkv) :=
  host_gkv (W3 m ρ c) I.gkv (by rw [W3_args m ρ c main_arg8 (by decide)]; exact H.h8)

/-- The third call's rearranged key-value weights. -/
theorem wkvb_third : Is2 (n0 := 4096) (n1 := 512) (V4 m ρ c main_v43) I.wkvbK := by
  rw [to_first (m := m) (ρ := ρ) (c := c) main_v43 (by decide) (by decide) (by decide)]
  exact host_wkvb (W0 m ρ c) I.wkvb H.h9

/-- After the third call: the keys in the kernel's layout. -/
theorem k_at : Is2 (n0 := 2048) (n1 := 4096) (V5 m ρ c main_v50_0) I.kK := by
  have h := region2_keys (V4 m ρ) c (x_third H) (wkva_third H) (gkv_third H) (wkvb_third H) (cs := I.cosK) (sn := I.sinK)
    (by rw [to_first (m := m) (ρ := ρ) (c := c) main_v28 (by decide) (by decide) (by decide)]; exact host_kcos (W0 m ρ c) I.cos H.h1)
    (by rw [to_first (m := m) (ρ := ρ) (c := c) main_v31 (by decide) (by decide) (by decide)]; exact host_ksin (W0 m ρ c) I.sin H.h2)
  rw [hF2 m ρ c 6] at h
  exact h

/-- After the third call: the values. -/
theorem v_at : Is2 (n0 := 2048) (n1 := 2048) (V5 m ρ c main_v50_1) I.vK := by
  have h := region2_vals (V4 m ρ) c (x_third H) (wkva_third H) (gkv_third H) (wkvb_third H)
  rw [hF2 m ρ c 7] at h
  exact h

/-- After the fourth call: the attention, head by head. -/
theorem att_at : Is2 (n0 := 2048) (n1 := 2048) (V6 m ρ c main_v51) (fun r n => I.att r (n / 128) (n % 128)) := by
  have e : V5 m ρ c main_v47 = V3 m ρ c main_v47 := (W5_of m ρ c main_v47 (by decide)).trans (W4_of m ρ c main_v47 (by decide))
  have h := region3 (V5 m ρ) c (q := I.qK) (by rw [e]; exact q_at H) (k_at H) (v_at H)
  rw [hF3 m ρ c 3] at h
  intro i j
  exact (h i j).trans (congrArg (fun z : ℝ => (z : EReal)) (I.att_eq i j j.isLt))

/-- After the fifth call: the output. -/
theorem out_at : Val2 (n0 := 2048) (n1 := 2048) (V8 m ρ c main_v53) I.out := by
  have e : V7 m ρ c main_v51 = V6 m ρ c main_v51 := W7_of m ρ c main_v51 (by decide)
  have h := region4 (V7 m ρ) c (x := fun r n => I.att r (n / 128) (n % 128)) (by rw [e]; exact att_at H)
    (host_wo (W6 m ρ c) I.wo (by rw [W6_args m ρ c main_arg10 (by decide)]; exact H.h10))
  rw [hF4 m ρ c 2] at h
  exact h

/-- The idealized kernel's result is the layer's output. -/
theorem kernel_val : Val3 (n0 := 1) (n1 := 2048) (n2 := 2048) (W9 m ρ c (Proc.devRef .tc main_v54)) (fun _ => I.out) :=
  host_out (W8 m ρ c) I.out (out_at H)

end Cert.Mla

end
-- ==== Proof.Ref.lean ====
/-
  The reference as stages: one function of arrays per step of its mathematics.
-/
module

public import proofs.«01_k».proof.Proof.Base
public import proofs.«01_k».proof.Proof.Gen.ReferenceIdeal.Run

@[expose] public section

set_option maxRecDepth 16384

noncomputable section

namespace Cert.Mla

open Idealize.ShloMosaic Idealize.ShloMosaic.TcCoe Idealize.SL.Sem Idealize.ShloMosaic.StableHlo
open Cert.ReferenceIdeal Cert.ReferenceIdeal.Gen
open scoped BigOperators

/-- The first query projection. -/
def refQproj (x : FVec Ideal S1x2048x2048 .f32) (w : FVec Ideal S1536x2048 .f32) : FVec Ideal S1x2048x1536 .f32 :=
  (Host.dotGeneral dot_S1x2048x2048_S2048x1536_S1x2048x1536_2_0_01_1_n_n none x (transpose S2048x1536 [1, 0] w transposes_S1536x2048_S2048x1536_1_0))

/-- The normalised query latent. -/
def refLat (p : FVec Ideal S1x2048x1536 .f32) (g : FVec Ideal S1536 .f32) : FVec Ideal S1x2048x1536 .f32 :=
  (mulf (mulf (broadcastInDim S1x2048x1536 ![0, 1, 2] bcast_S1x1x1536_S1x2048x1536_0_1_2 (broadcastInDim S1x1x1536 ![2] bcast_S1536_S1x1x1536_2 g)) p) (broadcastInDim S1x2048x1536 ![0, 1, 2] bcast_S1x2048x1_S1x2048x1536_0_1_2 (Host.rsqrt (addf (Host.divf (broadcastInDim S1x2048x1 ![0, 1] bcast_S1x2048_S1x2048x1_0_1 (Host.reduceAdd (mulf p p) (constant S_ .f32 0x00000000#32) reducesTo_S1x2048x1536_S1x2048_d2 h_S_)) (broadcastInDim S1x2048x1 ![] bcast_S_S1x2048x1 (constant S_ .f32 0x44C00000#32))) (broadcastInDim S1x2048x1 ![] bcast_S_S1x2048x1 (constant S_ .f32 0x358637BD#32))))))

/-- The queries by heads. -/
def refQ (a : FVec Ideal S1x2048x1536 .f32) (w : FVec Ideal S3072x1536 .f32) : FVec Ideal S1x2048x16x192 .f32 :=
  (shapeCast S1x2048x16x192 (Host.dotGeneral dot_S1x2048x1536_S1536x3072_S1x2048x3072_2_0_01_1_n_n none a (transpose S1536x3072 [1, 0] w transposes_S3072x1536_S1536x3072_1_0)) shapeCasts_S1x2048x3072_S1x2048x16x192)

/-- The positional part of the queries, rotated. -/
def refQrot (q : FVec Ideal S1x2048x16x192 .f32) (cs : FVec Ideal S2048x32 .f32) (sn : FVec Ideal S2048x32 .f32) : FVec Ideal S1x2048x16x64 .f32 :=
  (shapeCast S1x2048x16x64 (concatenate S1x2048x16x32x2 4 [⟨S1x2048x16x32x1, (broadcastInDim S1x2048x16x32x1 ![0, 1, 2, 3] bcast_S1x2048x16x32_S1x2048x16x32x1_0_1_2_3 (subf (mulf (shapeCast S1x2048x16x32 (extractStridedSlice S1x2048x16x32x1 ![0, 0, 0, 0, 0] (shapeCast S1x2048x16x32x2 (extractStridedSlice S1x2048x16x64 ![0, 0, 0, 128] q slices_S1x2048x16x192_S1x2048x16x64_0_0_0_128) shapeCasts_S1x2048x16x64_S1x2048x16x32x2) slices_S1x2048x16x32x2_S1x2048x16x32x1_0_0_0_0_0) shapeCasts_S1x2048x16x32x1_S1x2048x16x32) (broadcastInDim S1x2048x16x32 ![0, 1, 2, 3] bcast_S1x2048x1x32_S1x2048x16x32_0_1_2_3 (broadcastInDim S1x2048x1x32 ![1, 3] bcast_S2048x32_S1x2048x1x32_1_3 cs))) (mulf (shapeCast S1x2048x16x32 (extractStridedSlice S1x2048x16x32x1 ![0, 0, 0, 0, 1] (shapeCast S1x2048x16x32x2 (extractStridedSlice S1x2048x16x64 ![0, 0, 0, 128] q slices_S1x2048x16x192_S1x2048x16x64_0_0_0_128) shapeCasts_S1x2048x16x64_S1x2048x16x32x2) slices_S1x2048x16x32x2_S1x2048x16x32x1_0_0_0_0_1) shapeCasts_S1x2048x16x32x1_S1x2048x16x32) (broadcastInDim S1x2048x16x32 ![0, 1, 2, 3] bcast_S1x2048x1x32_S1x2048x16x32_0_1_2_3 (broadcastInDim S1x2048x1x32 ![1, 3] bcast_S2048x32_S1x2048x1x32_1_3 sn)))))⟩, ⟨S1x2048x16x32x1, (broadcastInDim S1x2048x16x32x1 ![0, 1, 2, 3] bcast_S1x2048x16x32_S1x2048x16x32x1_0_1_2_3 (addf (mulf (shapeCast S1x2048x16x32 (extractStridedSlice S1x2048x16x32x1 ![0, 0, 0, 0, 0] (shapeCast S1x2048x16x32x2 (extractStridedSlice S1x2048x16x64 ![0, 0, 0, 128] q slices_S1x2048x16x192_S1x2048x16x64_0_0_0_128) shapeCasts_S1x2048x16x64_S1x2048x16x32x2) slices_S1x2048x16x32x2_S1x2048x16x32x1_0_0_0_0_0) shapeCasts_S1x2048x16x32x1_S1x2048x16x32) (broadcastInDim S1x2048x16x32 ![0, 1, 2, 3] bcast_S1x2048x1x32_S1x2048x16x32_0_1_2_3 (broadcastInDim S1x2048x1x32 ![1, 3] bcast_S2048x32_S1x2048x1x32_1_3 sn))) (mulf (shapeCast S1x2048x16x32 (extractStridedSlice S1x2048x16x32x1 ![0, 0, 0, 0, 1] (shapeCast S1x2048x16x32x2 (extractStridedSlice S1x2048x16x64 ![0, 0, 0, 128] q slices_S1x2048x16x192_S1x2048x16x64_0_0_0_128) shapeCasts_S1x2048x16x64_S1x2048x16x32x2) slices_S1x2048x16x32x2_S1x2048x16x32x1_0_0_0_0_1) shapeCasts_S1x2048x16x32x1_S1x2048x16x32) (broadcastInDim S1x2048x16x32 ![0, 1, 2, 3] bcast_S1x2048x1x32_S1x2048x16x32_0_1_2_3 (broadcastInDim S1x2048x1x32 ![1, 3] bcast_S2048x32_S1x2048x1x32_1_3 cs)))))⟩] concatenates_S1x2048x16x32x1_S1x2048x16x32x1_S1x2048x16x32x2_d4) shapeCasts_S1x2048x16x32x2_S1x2048x16x64)

/-- The first key and value projection. -/
def refProj (x : FVec Ideal S1x2048x2048 .f32) (w : FVec Ideal S576x2048 .f32) : FVec Ideal S1x2048x576 .f32 :=
  (Host.dotGeneral dot_S1x2048x2048_S2048x576_S1x2048x576_2_0_01_1_n_n none x (transpose S2048x576 [1, 0] w transposes_S576x2048_S2048x576_1_0))

/-- The positional part of the keys, rotated. -/
def refKrot (p : FVec Ideal S1x2048x576 .f32) (cs : FVec Ideal S2048x32 .f32) (sn : FVec Ideal S2048x32 .f32) : FVec Ideal S1x2048x1x64 .f32 :=
  (shapeCast S1x2048x1x64 (concatenate S1x2048x1x32x2 4 [⟨S1x2048x1x32x1, (broadcastInDim S1x2048x1x32x1 ![0, 1, 2, 3] bcast_S1x2048x1x32_S1x2048x1x32x1_0_1_2_3 (subf (mulf (shapeCast S1x2048x1x32 (extractStridedSlice S1x2048x1x32x1 ![0, 0, 0, 0, 0] (shapeCast S1x2048x1x32x2 (broadcastInDim S1x2048x1x64 ![0, 1, 3] bcast_S1x2048x64_S1x2048x1x64_0_1_3 (extractStridedSlice S1x2048x64 ![0, 0, 512] p slices_S1x2048x576_S1x2048x64_0_0_512)) shapeCasts_S1x2048x1x64_S1x2048x1x32x2) slices_S1x2048x1x32x2_S1x2048x1x32x1_0_0_0_0_0) shapeCasts_S1x2048x1x32x1_S1x2048x1x32) (broadcastInDim S1x2048x1x32 ![1, 3] bcast_S2048x32_S1x2048x1x32_1_3 cs)) (mulf (shapeCast S1x2048x1x32 (extractStridedSlice S1x2048x1x32x1 ![0, 0, 0, 0, 1] (shapeCast S1x2048x1x32x2 (broadcastInDim S1x2048x1x64 ![0, 1, 3] bcast_S1x2048x64_S1x2048x1x64_0_1_3 (extractStridedSlice S1x2048x64 ![0, 0, 512] p slices_S1x2048x576_S1x2048x64_0_0_512)) shapeCasts_S1x2048x1x64_S1x2048x1x32x2) slices_S1x2048x1x32x2_S1x2048x1x32x1_0_0_0_0_1) shapeCasts_S1x2048x1x32x1_S1x2048x1x32) (broadcastInDim S1x2048x1x32 ![1, 3] bcast_S2048x32_S1x2048x1x32_1_3 sn))))⟩, ⟨S1x2048x1x32x1, (broadcastInDim S1x2048x1x32x1 ![0, 1, 2, 3] bcast_S1x2048x1x32_S1x2048x1x32x1_0_1_2_3 (addf (mulf (shapeCast S1x2048x1x32 (extractStridedSlice S1x2048x1x32x1 ![0, 0, 0, 0, 0] (shapeCast S1x2048x1x32x2 (broadcastInDim S1x2048x1x64 ![0, 1, 3] bcast_S1x2048x64_S1x2048x1x64_0_1_3 (extractStridedSlice S1x2048x64 ![0, 0, 512] p slices_S1x2048x576_S1x2048x64_0_0_512)) shapeCasts_S1x2048x1x64_S1x2048x1x32x2) slices_S1x2048x1x32x2_S1x2048x1x32x1_0_0_0_0_0) shapeCasts_S1x2048x1x32x1_S1x2048x1x32) (broadcastInDim S1x2048x1x32 ![1, 3] bcast_S2048x32_S1x2048x1x32_1_3 sn)) (mulf (shapeCast S1x2048x1x32 (extractStridedSlice S1x2048x1x32x1 ![0, 0, 0, 0, 1] (shapeCast S1x2048x1x32x2 (broadcastInDim S1x2048x1x64 ![0, 1, 3] bcast_S1x2048x64_S1x2048x1x64_0_1_3 (extractStridedSlice S1x2048x64 ![0, 0, 512] p slices_S1x2048x576_S1x2048x64_0_0_512)) shapeCasts_S1x2048x1x64_S1x2048x1x32x2) slices_S1x2048x1x32x2_S1x2048x1x32x1_0_0_0_0_1) shapeCasts_S1x2048x1x32x1_S1x2048x1x32) (broadcastInDim S1x2048x1x32 ![1, 3] bcast_S2048x32_S1x2048x1x32_1_3 cs))))⟩] concatenates_S1x2048x1x32x1_S1x2048x1x32x1_S1x2048x1x32x2_d4) shapeCasts_S1x2048x1x32x2_S1x2048x1x64)

/-- The normalised latent of the keys and values. -/
def refKlat (p : FVec Ideal S1x2048x576 .f32) (g : FVec Ideal S512 .f32) : FVec Ideal S1x2048x512 .f32 :=
  (mulf (mulf (broadcastInDim S1x2048x512 ![0, 1, 2] bcast_S1x1x512_S1x2048x512_0_1_2 (broadcastInDim S1x1x512 ![2] bcast_S512_S1x1x512_2 g)) (extractStridedSlice S1x2048x512 ![0, 0, 0] p slices_S1x2048x576_S1x2048x512_0_0_0)) (broadcastInDim S1x2048x512 ![0, 1, 2] bcast_S1x2048x1_S1x2048x512_0_1_2 (Host.rsqrt (addf (Host.divf (broadcastInDim S1x2048x1 ![0, 1] bcast_S1x2048_S1x2048x1_0_1 (Host.reduceAdd (mulf (extractStridedSlice S1x2048x512 ![0, 0, 0] p slices_S1x2048x576_S1x2048x512_0_0_0) (extractStridedSlice S1x2048x512 ![0, 0, 0] p slices_S1x2048x576_S1x2048x512_0_0_0)) (constant S_ .f32 0x00000000#32) reducesTo_S1x2048x512_S1x2048_d2 h_S_)) (broadcastInDim S1x2048x1 ![] bcast_S_S1x2048x1 (constant S_ .f32 0x44000000#32))) (broadcastInDim S1x2048x1 ![] bcast_S_S1x2048x1 (constant S_ .f32 0x358637BD#32))))))

/-- The keys and values by heads. -/
def refUp (a : FVec Ideal S1x2048x512 .f32) (w : FVec Ideal S4096x512 .f32) : FVec Ideal S1x2048x16x256 .f32 :=
  (shapeCast S1x2048x16x256 (Host.dotGeneral dot_S1x2048x512_S512x4096_S1x2048x4096_2_0_01_1_n_n none a (transpose S512x4096 [1, 0] w transposes_S4096x512_S512x4096_1_0)) shapeCasts_S1x2048x4096_S1x2048x16x256)

/-- The keys: each head its own part, then the shared rotated part. -/
def refKeys (u : FVec Ideal S1x2048x16x256 .f32) (k : FVec Ideal S1x2048x1x64 .f32) : FVec Ideal S1x2048x16x192 .f32 :=
  (concatenate S1x2048x16x192 3 [⟨S1x2048x16x128, (extractStridedSlice S1x2048x16x128 ![0, 0, 0, 0] u slices_S1x2048x16x256_S1x2048x16x128_0_0_0_0)⟩, ⟨S1x2048x16x64, (broadcastInDim S1x2048x16x64 ![0, 1, 2, 3] bcast_S1x2048x1x64_S1x2048x16x64_0_1_2_3 k)⟩] concatenates_S1x2048x16x128_S1x2048x16x64_S1x2048x16x192_d3)

/-- The queries: the plain part, then the rotated part. -/
def refQueries (q : FVec Ideal S1x2048x16x192 .f32) (r : FVec Ideal S1x2048x16x64 .f32) : FVec Ideal S1x2048x16x192 .f32 :=
  (concatenate S1x2048x16x192 3 [⟨S1x2048x16x128, (extractStridedSlice S1x2048x16x128 ![0, 0, 0, 0] q slices_S1x2048x16x192_S1x2048x16x128_0_0_0_0)⟩, ⟨S1x2048x16x64, r⟩] concatenates_S1x2048x16x128_S1x2048x16x64_S1x2048x16x192_d3)

/-- The scaled scores. -/
def refScores (k : FVec Ideal S1x2048x16x192 .f32) (q : FVec Ideal S1x2048x16x192 .f32) : FVec Ideal S1x2048x16x2048 .f32 :=
  (mulf (transpose S1x2048x16x2048 [0, 3, 1, 2] (Host.dotGeneral dot_S1x2048x16x192_S1x2048x16x192_S1x16x2048x2048_3_3_1_1_02_02 none k q) transposes_S1x16x2048x2048_S1x2048x16x2048_0_3_1_2) (broadcastInDim S1x2048x16x2048 ![] bcast_S_S1x2048x16x2048 (Host.divf (constant S_ .f32 0x3F800000#32) (Host.sqrt (constant S_ .f32 0x43400000#32)))))

/-- The scores under the mask. -/
def refMasked (s : FVec Ideal S1x2048x16x2048 .f32) (mk : FVec Ideal S2048x2048 .f32) : FVec Ideal S1x2048x16x2048 .f32 :=
  (select (broadcastInDim S1x2048x16x2048 ![0, 1, 2, 3] bcast_S1x2048x1x2048_S1x2048x16x2048_0_1_2_3 (cmpf .ogt (broadcastInDim S1x2048x1x2048 ![1, 3] bcast_S2048x2048_S1x2048x1x2048_1_3 mk) (broadcastInDim S1x2048x1x2048 ![] bcast_S_S1x2048x1x2048 (constant S_ .f32 0xCE6E6B28#32)))) (addf s (broadcastInDim S1x2048x16x2048 ![0, 1, 2, 3] bcast_S1x2048x1x2048_S1x2048x16x2048_0_1_2_3 (broadcastInDim S1x2048x1x2048 ![1, 3] bcast_S2048x2048_S1x2048x1x2048_1_3 mk))) (broadcastInDim S1x2048x16x2048 ![] bcast_S_S1x2048x16x2048 (constant S_ .f32 0xFF800000#32)))

/-- The largest score of each row. -/
def refTop (s : FVec Ideal S1x2048x16x2048 .f32) : FVec Ideal S1x2048x16 .f32 :=
  (maximumf (broadcastInDim S1x2048x16 ![] bcast_S_S1x2048x16 (constant S_ .f32 0xFF800000#32)) (Host.reduce FloatOps.maximumf s (constant S_ .f32 0xFF800000#32) reducesTo_S1x2048x16x2048_S1x2048x16_d3 h_S_))

/-- The exponentials of the scores less the largest of the row. -/
def refExp (s : FVec Ideal S1x2048x16x2048 .f32) (t : FVec Ideal S1x2048x16 .f32) : FVec Ideal S1x2048x16x2048 .f32 :=
  (Host.exp (subf s (broadcastInDim S1x2048x16x2048 ![0, 1, 2, 3] bcast_S1x2048x16x1_S1x2048x16x2048_0_1_2_3 (broadcastInDim S1x2048x16x1 ![0, 1, 2] bcast_S1x2048x16_S1x2048x16x1_0_1_2 t))))

/-- The exponentials by their row sums. -/
def refProbs (e : FVec Ideal S1x2048x16x2048 .f32) : FVec Ideal S1x2048x16x2048 .f32 :=
  (Host.divf e (broadcastInDim S1x2048x16x2048 ![0, 1, 2, 3] bcast_S1x2048x16x1_S1x2048x16x2048_0_1_2_3 (broadcastInDim S1x2048x16x1 ![0, 1, 2] bcast_S1x2048x16_S1x2048x16x1_0_1_2 (Host.reduceAdd e (constant S_ .f32 0x00000000#32) reducesTo_S1x2048x16x2048_S1x2048x16_d3 h_S_))))

/-- The attention output, heads side by side. -/
def refMix (u : FVec Ideal S1x2048x16x256 .f32) (p : FVec Ideal S1x2048x16x2048 .f32) : FVec Ideal S1x2048x2048 .f32 :=
  (shapeCast S1x2048x2048 (transpose S1x2048x16x128 [0, 3, 1, 2] (Host.dotGeneral dot_S1x2048x16x128_S1x2048x16x2048_S1x16x128x2048_1_3_3_1_02_02 none (extractStridedSlice S1x2048x16x128 ![0, 0, 0, 128] u slices_S1x2048x16x256_S1x2048x16x128_0_0_0_128) p) transposes_S1x16x128x2048_S1x2048x16x128_0_3_1_2) shapeCasts_S1x2048x16x128_S1x2048x2048)

/-- The output projection. -/
def refOut (a : FVec Ideal S1x2048x2048 .f32) (w : FVec Ideal S2048x2048 .f32) : FVec Ideal S1x2048x2048 .f32 :=
  (Host.dotGeneral dot_S1x2048x2048_S2048x2048_S1x2048x2048_2_0_01_1_n_n none a (transpose S2048x2048 [1, 0] w transposes_S2048x2048_S2048x2048_1_0))

/-- The reference's result is its stages one after the other. -/
theorem ref_stages (m : (ℓ : Loc nD τ sig) → Buf (Elt Ideal) ℓ) (c : Dev nD) :
    Cert.ReferenceIdeal.Value.res_main_v111 m c = (refOut (refMix (refUp (refKlat (refProj (m ((c.tc : Thread nD τ).loc main_arg0)) (m ((c.tc : Thread nD τ).loc main_arg7))) (m ((c.tc : Thread nD τ).loc main_arg8))) (m ((c.tc : Thread nD τ).loc main_arg9))) (refProbs (refExp (refMasked (refScores (refKeys (refUp (refKlat (refProj (m ((c.tc : Thread nD τ).loc main_arg0)) (m ((c.tc : Thread nD τ).loc main_arg7))) (m ((c.tc : Thread nD τ).loc main_arg8))) (m ((c.tc : Thread nD τ).loc main_arg9))) (refKrot (refProj (m ((c.tc : Thread nD τ).loc main_arg0)) (m ((c.tc : Thread nD τ).loc main_arg7))) (m ((c.tc : Thread nD τ).loc main_arg1)) (m ((c.tc : Thread nD τ).loc main_arg2)))) (refQueries (refQ (refLat (refQproj (m ((c.tc : Thread nD τ).loc main_arg0)) (m ((c.tc : Thread nD τ).loc main_arg4))) (m ((c.tc : Thread nD τ).loc main_arg5))) (m ((c.tc : Thread nD τ).loc main_arg6))) (refQrot (refQ (refLat (refQproj (m ((c.tc : Thread nD τ).loc main_arg0)) (m ((c.tc : Thread nD τ).loc main_arg4))) (m ((c.tc : Thread nD τ).loc main_arg5))) (m ((c.tc : Thread nD τ).loc main_arg6))) (m ((c.tc : Thread nD τ).loc main_arg1)) (m ((c.tc : Thread nD τ).loc main_arg2))))) (m ((c.tc : Thread nD τ).loc main_arg3))) (refTop (refMasked (refScores (refKeys (refUp (refKlat (refProj (m ((c.tc : Thread nD τ).loc main_arg0)) (m ((c.tc : Thread nD τ).loc main_arg7))) (m ((c.tc : Thread nD τ).loc main_arg8))) (m ((c.tc : Thread nD τ).loc main_arg9))) (refKrot (refProj (m ((c.tc : Thread nD τ).loc main_arg0)) (m ((c.tc : Thread nD τ).loc main_arg7))) (m ((c.tc : Thread nD τ).loc main_arg1)) (m ((c.tc : Thread nD τ).loc main_arg2)))) (refQueries (refQ (refLat (refQproj (m ((c.tc : Thread nD τ).loc main_arg0)) (m ((c.tc : Thread nD τ).loc main_arg4))) (m ((c.tc : Thread nD τ).loc main_arg5))) (m ((c.tc : Thread nD τ).loc main_arg6))) (refQrot (refQ (refLat (refQproj (m ((c.tc : Thread nD τ).loc main_arg0)) (m ((c.tc : Thread nD τ).loc main_arg4))) (m ((c.tc : Thread nD τ).loc main_arg5))) (m ((c.tc : Thread nD τ).loc main_arg6))) (m ((c.tc : Thread nD τ).loc main_arg1)) (m ((c.tc : Thread nD τ).loc main_arg2))))) (m ((c.tc : Thread nD τ).loc main_arg3))))))) (m ((c.tc : Thread nD τ).loc main_arg10))) := by
  unfold Cert.ReferenceIdeal.Value.res_main_v111 refQproj refLat refQ refQrot refProj refKrot refKlat refUp refKeys refQueries refScores refMasked refTop refExp refProbs refMix refOut
  rfl

end Cert.Mla

end
-- ==== Proof.RefRead.lean ====
/-
  Each stage of the reference at an index, as real numbers.
-/
module

public import proofs.«01_k».proof.Proof.Ref

@[expose] public section

set_option maxRecDepth 16384

noncomputable section

namespace Cert.Mla

open Idealize.ShloMosaic Idealize.ShloMosaic.TcCoe Idealize.SL.Sem Idealize.ShloMosaic.StableHlo
open Cert.ReferenceIdeal Cert.ReferenceIdeal.Gen
open scoped BigOperators

/-- The first query projection at an index. -/
theorem refQproj_at (x : ℕ → ℕ → ℝ) (w : ℕ → ℕ → EReal) (X W) (hx : Is3 (n0 := 1) (n1 := 2048) (n2 := 2048) X fun _ => x) (hw : Val2 (n0 := 1536) (n1 := 2048) W w) :
    Val3 (n0 := 1) (n1 := 2048) (n2 := 1536) (refQproj X W) (fun _ r c => ∑ j : Fin 2048, (x r j : EReal) * w c j) := by
  intro i j k
  pointwise [refQproj]
  simp only [hx _ _ _, hw _ _]

/-- The normalised query latent at an index. -/
theorem refLat_at (p : ℕ → ℕ → EReal) (g : ℕ → ℝ) (P G) (hp : Val3 (n0 := 1) (n1 := 2048) (n2 := 1536) P fun _ => p) (hg : Is1 (n0 := 1536) G g) :
    Is3 (n0 := 1) (n1 := 2048) (n2 := 1536) (refLat P G) (fun _ r c => rmsE 1536 (p r) g c) := by
  intro i j k
  pointwise [refLat]
  simp only [hp _ _ _, hg _]
  rw [ofBits_1536, eps_spec.1, ← rmsE_eq (N := 1536) (by norm_num) (p j) g k]
  exact (mul_assoc _ _ _).trans (mul_comm _ _)

/-- The queries by heads at an index. -/
theorem refQ_at (a w : ℕ → ℕ → ℝ) (A W) (ha : Is3 (n0 := 1) (n1 := 2048) (n2 := 1536) A fun _ => a) (hw : Is2 (n0 := 3072) (n1 := 1536) W w) :
    Is4 (n0 := 1) (n1 := 2048) (n2 := 16) (n3 := 192) (refQ A W) (fun _ r h d => ∑ k : Fin 1536, a r k * w (h * 192 + d) k) := by
  intro i j k l
  pointwise [refQ]
  simp only [ha _ _ _, hw _ _, ← EReal.coe_mul, coe_sum]

/-- The rotated part of the queries at an index. -/
theorem refQrot_at (I : In) (q : ℕ → ℕ → ℕ → ℝ) (Q C S) (hq : Is4 (n0 := 1) (n1 := 2048) (n2 := 16) (n3 := 192) Q fun _ => q)
    (hc : Is2 (n0 := 2048) (n1 := 32) C I.cos) (hs : Is2 (n0 := 2048) (n1 := 32) S I.sin) :
    Is4 (n0 := 1) (n1 := 2048) (n2 := 16) (n3 := 64) (refQrot Q C S) (fun _ r h e => I.rot (fun e => q r h (128 + e)) r e) := by
  intro i j k l
  pointwise [refQrot]
  simp only [hq _ _ _ _, hc _ _, hs _ _, ← EReal.coe_mul, coe_sum]
  unfold In.rot
  by_cases h : l.val % 2 = 0
  · rw [dif_pos (by omega), if_pos h, ← EReal.coe_sub, show l.val / 2 * 2 = l.val by omega]
  · rw [dif_neg (by omega), if_neg h, ← EReal.coe_add, show l.val / 2 * 2 = l.val - 1 by omega, show l.val - 1 + 1 = l.val by omega]

/-- The key and value projection at an index. -/
theorem refProj_at (x w : ℕ → ℕ → ℝ) (X W) (hx : Is3 (n0 := 1) (n1 := 2048) (n2 := 2048) X fun _ => x) (hw : Is2 (n0 := 576) (n1 := 2048) W w) :
    Is3 (n0 := 1) (n1 := 2048) (n2 := 576) (refProj X W) (fun _ r c => ∑ j : Fin 2048, x r j * w c j) := by
  intro i j k
  pointwise [refProj]
  simp only [hx _ _ _, hw _ _, ← EReal.coe_mul, coe_sum]

/-- The rotated part of the keys at an index. -/
theorem refKrot_at (I : In) (p : ℕ → ℕ → ℝ) (P C S) (hp : Is3 (n0 := 1) (n1 := 2048) (n2 := 576) P fun _ => p)
    (hc : Is2 (n0 := 2048) (n1 := 32) C I.cos) (hs : Is2 (n0 := 2048) (n1 := 32) S I.sin) :
    Is4 (n0 := 1) (n1 := 2048) (n2 := 1) (n3 := 64) (refKrot P C S) (fun _ r _ e => I.rot (fun e => p r (512 + e)) r e) := by
  intro i j k l
  pointwise [refKrot]
  simp only [hp _ _ _, hc _ _, hs _ _, ← EReal.coe_mul, coe_sum]
  unfold In.rot
  by_cases h : l.val % 2 = 0
  · rw [dif_pos (by omega), if_pos h, ← EReal.coe_sub, show l.val / 2 * 2 = l.val by omega]
  · rw [dif_neg (by omega), if_neg h, ← EReal.coe_add, show l.val / 2 * 2 = l.val - 1 by omega, show l.val - 1 + 1 = l.val by omega]

/-- The normalised latent of the keys and values at an index. -/
theorem refKlat_at (p : ℕ → ℕ → ℝ) (g : ℕ → ℝ) (P G) (hp : Is3 (n0 := 1) (n1 := 2048) (n2 := 576) P fun _ => p) (hg : Is1 (n0 := 512) G g) :
    Is3 (n0 := 1) (n1 := 2048) (n2 := 512) (refKlat P G) (fun _ r c => rms 512 (p r) g c) := by
  intro i j k
  pointwise [refKlat]
  simp only [hp _ _ _, hg _, ← EReal.coe_mul, coe_sum]
  rw [ofBits_512, eps_spec.1, div_real _ (by norm_num), ← EReal.coe_add, rsqrt_real (by simpa using rms_pos 512 (p j)), ← EReal.coe_mul]
  unfold rms
  congr 1
  push_cast
  ring

/-- The keys and values by heads at an index. -/
theorem refUp_at (a w : ℕ → ℕ → ℝ) (A W) (ha : Is3 (n0 := 1) (n1 := 2048) (n2 := 512) A fun _ => a) (hw : Is2 (n0 := 4096) (n1 := 512) W w) :
    Is4 (n0 := 1) (n1 := 2048) (n2 := 16) (n3 := 256) (refUp A W) (fun _ r h d => ∑ k : Fin 512, a r k * w (h * 256 + d) k) := by
  intro i j k l
  pointwise [refUp]
  simp only [ha _ _ _, hw _ _, ← EReal.coe_mul, coe_sum]

/-- The keys at an index. -/
theorem refKeys_at (u : ℕ → ℕ → ℕ → ℝ) (k : ℕ → ℕ → ℝ) (U K) (hu : Is4 (n0 := 1) (n1 := 2048) (n2 := 16) (n3 := 256) U fun _ => u)
    (hk : Is4 (n0 := 1) (n1 := 2048) (n2 := 1) (n3 := 64) K fun _ r _ e => k r e) :
    Is4 (n0 := 1) (n1 := 2048) (n2 := 16) (n3 := 192) (refKeys U K) (fun _ r h d => if d < 128 then u r h d else k r (d - 128)) := by
  intro i j k l
  pointwise [refKeys]
  simp only [hu _ _ _ _, hk _ _ _ _, ← EReal.coe_mul, coe_sum]
  split_ifs <;> rfl

/-- The queries at an index. -/
theorem refQueries_at (q a : ℕ → ℕ → ℕ → ℝ) (Q R) (hq : Is4 (n0 := 1) (n1 := 2048) (n2 := 16) (n3 := 192) Q fun _ => q)
    (ha : Is4 (n0 := 1) (n1 := 2048) (n2 := 16) (n3 := 64) R fun _ => a) :
    Is4 (n0 := 1) (n1 := 2048) (n2 := 16) (n3 := 192) (refQueries Q R) (fun _ r h d => if d < 128 then q r h d else a r h (d - 128)) := by
  intro i j k l
  pointwise [refQueries]
  simp only [hq _ _ _ _, ha _ _ _ _, ← EReal.coe_mul, coe_sum]
  split_ifs <;> rfl

/-- The scaled scores at an index. -/
theorem refScores_at (k q : ℕ → ℕ → ℕ → ℝ) (K Q) (hk : Is4 (n0 := 1) (n1 := 2048) (n2 := 16) (n3 := 192) K fun _ => k)
    (hq : Is4 (n0 := 1) (n1 := 2048) (n2 := 16) (n3 := 192) Q fun _ => q) :
    Is4 (n0 := 1) (n1 := 2048) (n2 := 16) (n3 := 2048) (refScores K Q) (fun _ r h t => (∑ d : Fin 192, q r h d * k t h d) * (√192)⁻¹) := by
  intro i j k l
  pointwise [refScores]
  simp only [hk _ _ _ _, hq _ _ _ _, ← EReal.coe_mul, coe_sum]
  rw [ofBits_192, show Ideal.sqrt ((192 : ℝ) : EReal) = ((√192 : ℝ) : EReal) by rw [Ideal.sqrt_coe, if_neg (by norm_num)],
    show (1 : EReal) = ((1 : ℝ) : EReal) from rfl, div_real _ (by positivity), ← EReal.coe_mul, one_div]
  simp only [mul_comm (q _ _ _)]

/-- The attention output at an index. -/
theorem refMix_at (u p : ℕ → ℕ → ℕ → ℝ) (U P) (hu : Is4 (n0 := 1) (n1 := 2048) (n2 := 16) (n3 := 256) U fun _ => u)
    (hp : Is4 (n0 := 1) (n1 := 2048) (n2 := 16) (n3 := 2048) P fun _ => p) :
    Is3 (n0 := 1) (n1 := 2048) (n2 := 2048) (refMix U P) (fun _ r n => ∑ t : Fin 2048, p r (n / 128) t * u t (n / 128) (128 + n % 128)) := by
  intro i j k
  pointwise [refMix]
  simp only [hu _ _ _ _, hp _ _ _ _, ← EReal.coe_mul, coe_sum]
  simp only [mul_comm]

/-- The output projection at an index. -/
theorem refOut_at (a : ℕ → ℕ → ℝ) (w : ℕ → ℕ → EReal) (A W) (ha : Is3 (n0 := 1) (n1 := 2048) (n2 := 2048) A fun _ => a) (hw : Val2 (n0 := 2048) (n1 := 2048) W w) :
    Val3 (n0 := 1) (n1 := 2048) (n2 := 2048) (refOut A W) (fun _ r c => ∑ j : Fin 2048, (a r j : EReal) * w c j) := by
  intro i j k
  pointwise [refOut]
  simp only [ha _ _ _, hw _ _]

end Cert.Mla

end
-- ==== Proof.Soft.lean ====
/-
  The softmax of the reference under the causal mask: the largest score is a real number, a masked entry weighs nothing.
-/
module

public import proofs.«01_k».proof.Proof.Ref

@[expose] public section

set_option maxRecDepth 16384

noncomputable section

namespace Cert.Mla

open Idealize.ShloMosaic Idealize.ShloMosaic.TcCoe Idealize.SL.Sem Idealize.ShloMosaic.StableHlo
open Cert.ReferenceIdeal Cert.ReferenceIdeal.Gen
open scoped BigOperators

/-- A score under the mask: itself on and below the diagonal, minus infinity above it. -/
theorem refMasked_at (s : ℕ → ℕ → ℕ → ℝ) (S M) (hs : Is4 (n0 := 1) (n1 := 2048) (n2 := 16) (n3 := 2048) S fun _ => s)
    (h0 : ∀ r t : Fin 2048, t.val ≤ r.val → M (ix2 r t) = 0)
    (h1 : ∀ r t : Fin 2048, r.val < t.val → M (ix2 r t) ≤ ((-1000000000 : ℝ) : EReal))
    (r : Fin 2048) (h : Fin 16) (t : Fin 2048) :
    refMasked S M (ix4 0 r h t) = if t.val ≤ r.val then ((s r h t : ℝ) : EReal) else ⊥ := by
  pointwise [refMasked]
  rw [ofBits_neg_1e9, ofBits_neg_inf]
  by_cases e : t.val ≤ r.val
  · rw [if_pos e, h0 r t e, if_pos (by rw [← EReal.coe_zero, EReal.coe_lt_coe_iff]; norm_num), hs, add_zero]
  · rw [if_neg e, if_neg (not_lt.mpr (h1 r t (by omega)))]

/-- The largest entry of a row is a real number when none is plus infinity and the diagonal's is above minus infinity. -/
theorem refTop_at (S) (r : Fin 2048) (h : Fin 16) (hlt : ∀ i, S i < (⊤ : EReal)) (hd : (⊥ : EReal) < S (ix4 0 r h r)) :
    ∃ M : ℝ, refTop S (ix3 0 r h) = (M : EReal) := by
  have e : ∀ R : FVec Ideal S1x2048x16 .f32, maximumf (broadcastInDim S1x2048x16 ![] bcast_S_S1x2048x16
      (constant (F := Ideal) S_ .f32 0xFF800000#32)) R (ix3 0 r h) = max (Ideal.ofBits .f32 0xFF800000#32) (R (ix3 0 r h)) := fun _ => rfl
  unfold refTop
  rw [e, Host.reduce_eq_fold]
  have hm : (ix4 0 r h r : S1x2048x16x2048.Idx) ∈ Finset.univ.filter
      (fun i => reducesTo_S1x2048x16x2048_S1x2048x16_d3.drop i = ix3 0 r h) := by
    rw [Finset.mem_filter]
    refine ⟨Finset.mem_univ _, ?_⟩
    funext a
    fin_cases a <;> rfl
  generalize Finset.univ.filter (fun i => reducesTo_S1x2048x16x2048_S1x2048x16_d3.drop i = ix3 0 r h) = K at hm
  have e2 : Finset.fold FloatOps.maximumf ((constant (F := Ideal) S_ .f32 0xFF800000#32) (Shape.Idx.first h_S_)) S K
      = Finset.fold max (⊥ : EReal) S K := by
    rw [← ofBits_neg_inf]
    rfl
  rw [e2, ofBits_neg_inf, max_eq_right bot_le]
  have lo : (⊥ : EReal) < Finset.fold max (⊥ : EReal) S K := (Finset.lt_fold_max _).mpr (Or.inr ⟨_, hm, hd⟩)
  have hi : Finset.fold max (⊥ : EReal) S K < ⊤ := (Finset.fold_max_lt _).mpr ⟨bot_lt_top, fun i _ => hlt i⟩
  exact ⟨(Finset.fold max (⊥ : EReal) S K).toReal, (EReal.coe_toReal hi.ne lo.ne').symm⟩

/-- The exponential of a masked score less the row's largest. -/
theorem refExp_at (s : ℕ → ℕ → ℕ → ℝ) (S T) (M : ℕ → ℕ → ℝ)
    (hs : ∀ (r : Fin 2048) (h : Fin 16) (t : Fin 2048), S (ix4 0 r h t) = if t.val ≤ r.val then ((s r h t : ℝ) : EReal) else ⊥)
    (hT : Is3 (n0 := 1) (n1 := 2048) (n2 := 16) T fun _ => M) :
    Is4 (n0 := 1) (n1 := 2048) (n2 := 16) (n3 := 2048) (refExp S T)
      (fun _ r h t => if t ≤ r then Real.exp (s r h t - M r h) else 0) := by
  intro i r h t
  obtain rfl : i = 0 := Subsingleton.elim _ _
  pointwise [refExp]
  rw [hs, hT]
  by_cases e : t.val ≤ r.val
  · simp only [if_pos e]
    rw [← EReal.coe_sub, Ideal.exp_coe]
  · simp only [if_neg e]
    rw [EReal.bot_sub, Ideal.exp_bot]
    rfl

/-- The exponentials over their row sums. -/
theorem refProbs_at (e : ℕ → ℕ → ℕ → ℝ) (E) (he : Is4 (n0 := 1) (n1 := 2048) (n2 := 16) (n3 := 2048) E fun _ => e)
    (hp : ∀ (r : Fin 2048) (h : Fin 16), (∑ t : Fin 2048, e r h t) ≠ 0) :
    Is4 (n0 := 1) (n1 := 2048) (n2 := 16) (n3 := 2048) (refProbs E) (fun _ r h t => e r h t / ∑ t : Fin 2048, e r h t) := by
  intro i r h t
  obtain rfl : i = 0 := Subsingleton.elim _ _
  pointwise [refProbs]
  simp only [he _ _ _ _, coe_sum]
  rw [div_real _ (hp r h)]

/-- A sum over 2048 columns of terms that vanish past column `r` is the sum over the first `r + 1`. -/
theorem sum_causal (f : ℕ → ℝ) (r : Fin 2048) :
    ∑ t : Fin 2048, (if t.val ≤ r.val then f t else 0) = ∑ t ∈ Finset.range (r.val + 1), f t := by
  rw [Fin.sum_univ_eq_sum_range (fun t => if t ≤ r.val then f t else 0) 2048,
    ← Finset.sum_subset (Finset.range_mono (by omega : r.val + 1 ≤ 2048))]
  · refine Finset.sum_congr rfl fun t ht => ?_
    rw [if_pos (by rw [Finset.mem_range] at ht; omega)]
  · intro t _ ht
    rw [if_neg (by rw [Finset.mem_range] at ht; omega)]

/-- The weights of a row sum to a positive number. -/
theorem weights_pos (s : ℕ → ℝ) (M : ℝ) (r : Fin 2048) :
    0 < ∑ t : Fin 2048, (if t.val ≤ r.val then Real.exp (s t - M) else 0) := by
  rw [sum_causal (fun t => Real.exp (s t - M))]
  exact Finset.sum_pos (fun t _ => Real.exp_pos _) ⟨0, by simp⟩

/-- The number subtracted before the exponential cancels in the weighted mean. -/
theorem softmax_shift (s v : ℕ → ℝ) (M : ℝ) (r : Fin 2048) :
    ∑ t : Fin 2048, (if t.val ≤ r.val then Real.exp (s t - M) else 0) /
        (∑ t : Fin 2048, if t.val ≤ r.val then Real.exp (s t - M) else 0) * v t
      = (∑ t ∈ Finset.range (r.val + 1), Real.exp (s t) * v t) / ∑ t ∈ Finset.range (r.val + 1), Real.exp (s t) := by
  have e1 : ∀ t : Fin 2048, (if t.val ≤ r.val then Real.exp (s t - M) else 0) /
        (∑ t : Fin 2048, if t.val ≤ r.val then Real.exp (s t - M) else 0) * v t
      = (if t.val ≤ r.val then Real.exp (s t - M) * v t else 0) /
        (∑ t : Fin 2048, if t.val ≤ r.val then Real.exp (s t - M) else 0) := by
    intro t
    split_ifs
    · ring
    · ring
  rw [Finset.sum_congr rfl fun t _ => e1 t, ← Finset.sum_div, sum_causal (fun t => Real.exp (s t - M) * v t),
    sum_causal (fun t => Real.exp (s t - M))]
  simp only [Real.exp_sub, div_mul_eq_mul_div, ← Finset.sum_div]
  rw [div_div_div_cancel_right₀ (Real.exp_pos M).ne']

end Cert.Mla

end
-- ==== Proof.RefVal.lean ====
/-
  The reference's result: its stages composed give the layer's output.
-/
module

public import proofs.«01_k».proof.Proof.RefRead
public import proofs.«01_k».proof.Proof.Soft

@[expose] public section

set_option maxRecDepth 16384

noncomputable section

namespace Cert.Mla

open Idealize.ShloMosaic Idealize.ShloMosaic.TcCoe Idealize.SL.Sem
open Cert.ReferenceIdeal Cert.ReferenceIdeal.Gen
open scoped BigOperators

variable (I : In)

/-- The reference's queries, from the activations to the heads. -/
theorem ref_queries (a0 a1 a2 a4 a5 a6) (h0 : Is3 (n0 := 1) (n1 := 2048) (n2 := 2048) a0 fun _ => I.x)
    (h1 : Is2 (n0 := 2048) (n1 := 32) a1 I.cos) (h2 : Is2 (n0 := 2048) (n1 := 32) a2 I.sin)
    (h4 : Val2 (n0 := 1536) (n1 := 2048) a4 I.wqa) (h5 : Is1 (n0 := 1536) a5 I.gqa) (h6 : Is2 (n0 := 3072) (n1 := 1536) a6 I.wqb) :
    Is4 (n0 := 1) (n1 := 2048) (n2 := 16) (n3 := 192)
      (refQueries (refQ (refLat (refQproj a0 a4) a5) a6) (refQrot (refQ (refLat (refQproj a0 a4) a5) a6) a1 a2)) fun _ => I.qf := by
  have hq : Is4 (n0 := 1) (n1 := 2048) (n2 := 16) (n3 := 192) (refQ (refLat (refQproj a0 a4) a5) a6) fun _ r h d => I.qraw r (h * 192 + d) :=
    refQ_at I.lat I.wqb _ _ (refLat_at _ I.gqa _ _ (refQproj_at I.x I.wqa _ _ h0 h4) h5) h6
  have hr := refQrot_at I _ _ _ _ hq h1 h2
  intro i r h d
  refine (refQueries_at _ _ _ _ hq hr i r h d).trans (congrArg (fun z : ℝ => (z : EReal)) ?_)
  unfold In.qf
  beta_reduce
  split_ifs
  · rfl
  · refine congrArg (fun f => I.rot f r.val (d.val - 128)) (funext fun e => ?_)
    beta_reduce
    rw [Nat.add_assoc]

/-- The reference's keys and values before they are split. -/
theorem ref_up (a0 a7 a8 a9) (h0 : Is3 (n0 := 1) (n1 := 2048) (n2 := 2048) a0 fun _ => I.x)
    (h7 : Is2 (n0 := 576) (n1 := 2048) a7 I.wkva) (h8 : Is1 (n0 := 512) a8 I.gkv) (h9 : Is2 (n0 := 4096) (n1 := 512) a9 I.wkvb) :
    Is4 (n0 := 1) (n1 := 2048) (n2 := 16) (n3 := 256) (refUp (refKlat (refProj a0 a7) a8) a9) fun _ r h d => I.kvb r (h * 256 + d) :=
  refUp_at I.latkv I.wkvb _ _ (refKlat_at I.kvraw I.gkv _ _ (refProj_at I.x I.wkva _ _ h0 h7) h8) h9

/-- The reference's keys. -/
theorem ref_keys (a0 a1 a2 a7 a8 a9) (h0 : Is3 (n0 := 1) (n1 := 2048) (n2 := 2048) a0 fun _ => I.x)
    (h1 : Is2 (n0 := 2048) (n1 := 32) a1 I.cos) (h2 : Is2 (n0 := 2048) (n1 := 32) a2 I.sin)
    (h7 : Is2 (n0 := 576) (n1 := 2048) a7 I.wkva) (h8 : Is1 (n0 := 512) a8 I.gkv) (h9 : Is2 (n0 := 4096) (n1 := 512) a9 I.wkvb) :
    Is4 (n0 := 1) (n1 := 2048) (n2 := 16) (n3 := 192)
      (refKeys (refUp (refKlat (refProj a0 a7) a8) a9) (refKrot (refProj a0 a7) a1 a2)) fun _ => I.kf :=
  refKeys_at (fun r h d => I.kvb r (h * 256 + d)) I.kpe _ _ (ref_up I a0 a7 a8 a9 h0 h7 h8 h9)
    (refKrot_at I I.kvraw _ _ _ (refProj_at I.x I.wkva _ _ h0 h7) h1 h2)

/-- From scores that are real, a causal mask and values that are real: the reference's attention. -/
theorem ref_attention (s : ℕ → ℕ → ℕ → ℝ) (v : ℕ → ℕ → ℕ → ℝ) (S a3 U) (hs : Is4 (n0 := 1) (n1 := 2048) (n2 := 16) (n3 := 2048) S fun _ => s)
    (hu : Is4 (n0 := 1) (n1 := 2048) (n2 := 16) (n3 := 256) U fun _ => v)
    (h0 : ∀ r t : Fin 2048, t.val ≤ r.val → a3 (ix2 r t) = 0)
    (h1 : ∀ r t : Fin 2048, r.val < t.val → a3 (ix2 r t) ≤ ((-1000000000 : ℝ) : EReal)) :
    Is3 (n0 := 1) (n1 := 2048) (n2 := 2048) (refMix U (refProbs (refExp (refMasked S a3) (refTop (refMasked S a3))))) fun _ r n =>
      (∑ t ∈ Finset.range (r + 1), Real.exp (s r (n / 128) t) * v t (n / 128) (128 + n % 128))
        / ∑ t ∈ Finset.range (r + 1), Real.exp (s r (n / 128) t) := by
  have hm := refMasked_at s S a3 hs h0 h1
  have hlt : ∀ i, refMasked S a3 i < (⊤ : EReal) := by
    intro i
    obtain ⟨a, r, h, t, rfl⟩ : ∃ (a : Fin 1) (r : Fin 2048) (h : Fin 16) (t : Fin 2048), i = ix4 a r h t := ⟨i 0, i 1, i 2, i 3, eq_ix4 i⟩
    obtain rfl : a = 0 := Subsingleton.elim _ _
    rw [hm r h t]
    split_ifs
    · exact EReal.coe_lt_top _
    · exact bot_lt_top
  have ht : ∀ (r : Fin 2048) (h : Fin 16), ∃ M : ℝ, refTop (refMasked S a3) (ix3 0 r h) = (M : EReal) := fun r h =>
    refTop_at _ r h hlt (by rw [hm r h r, if_pos le_rfl]; exact EReal.bot_lt_coe _)
  choose M hM using ht
  have hT : Is3 (n0 := 1) (n1 := 2048) (n2 := 16) (refTop (refMasked S a3))
      (fun _ r h => if e : r < 2048 ∧ h < 16 then M ⟨r, e.1⟩ ⟨h, e.2⟩ else 0) := by
    intro a r h
    obtain rfl : a = 0 := Subsingleton.elim _ _
    refine (hM r h).trans (congrArg (fun z : ℝ => (z : EReal)) ?_)
    beta_reduce
    split_ifs with k
    · rfl
    · exact absurd ⟨r.isLt, h.isLt⟩ k
  generalize (fun r h => if e : r < 2048 ∧ h < 16 then M ⟨r, e.1⟩ ⟨h, e.2⟩ else 0 : ℕ → ℕ → ℝ) = N at hT
  have he := refExp_at s _ _ N hm hT
  have hp := refProbs_at (fun r h t => if t ≤ r then Real.exp (s r h t - N r h) else 0) _ he
    (fun r h => (weights_pos (s r h) (N r h) r).ne')
  intro a r n
  refine (refMix_at v _ U _ hu hp a r n).trans (congrArg (fun z : ℝ => (z : EReal)) ?_)
  exact softmax_shift (s r (n / 128)) (fun t => v t (n / 128) (128 + n % 128)) (N r (n / 128)) r

/-- The reference's result is the layer's output. -/
theorem ref_val (a0 a1 a2 a3 a4 a5 a6 a7 a8 a9 a10) (h0 : Is3 (n0 := 1) (n1 := 2048) (n2 := 2048) a0 fun _ => I.x)
    (h1 : Is2 (n0 := 2048) (n1 := 32) a1 I.cos) (h2 : Is2 (n0 := 2048) (n1 := 32) a2 I.sin)
    (h3 : ∀ r t : Fin 2048, t.val ≤ r.val → a3 (ix2 r t) = 0)
    (h3' : ∀ r t : Fin 2048, r.val < t.val → a3 (ix2 r t) ≤ ((-1000000000 : ℝ) : EReal))
    (h4 : Val2 (n0 := 1536) (n1 := 2048) a4 I.wqa) (h5 : Is1 (n0 := 1536) a5 I.gqa) (h6 : Is2 (n0 := 3072) (n1 := 1536) a6 I.wqb)
    (h7 : Is2 (n0 := 576) (n1 := 2048) a7 I.wkva) (h8 : Is1 (n0 := 512) a8 I.gkv) (h9 : Is2 (n0 := 4096) (n1 := 512) a9 I.wkvb)
    (h10 : Val2 (n0 := 2048) (n1 := 2048) a10 I.wo) :
    Val3 (n0 := 1) (n1 := 2048) (n2 := 2048)
      (refOut (refMix (refUp (refKlat (refProj a0 a7) a8) a9)
        (refProbs (refExp
          (refMasked (refScores (refKeys (refUp (refKlat (refProj a0 a7) a8) a9) (refKrot (refProj a0 a7) a1 a2))
            (refQueries (refQ (refLat (refQproj a0 a4) a5) a6) (refQrot (refQ (refLat (refQproj a0 a4) a5) a6) a1 a2))) a3)
          (refTop (refMasked (refScores (refKeys (refUp (refKlat (refProj a0 a7) a8) a9) (refKrot (refProj a0 a7) a1 a2))
            (refQueries (refQ (refLat (refQproj a0 a4) a5) a6) (refQrot (refQ (refLat (refQproj a0 a4) a5) a6) a1 a2))) a3))))) a10)
      fun _ => I.out := by
  have hs := refScores_at I.kf I.qf _ _ (ref_keys I a0 a1 a2 a7 a8 a9 h0 h1 h2 h7 h8 h9) (ref_queries I a0 a1 a2 a4 a5 a6 h0 h1 h2 h4 h5 h6)
  have ha := ref_attention _ _ _ a3 _ hs (ref_up I a0 a7 a8 a9 h0 h7 h8 h9) h3 h3'
  refine refOut_at (fun r n => I.att r (n / 128) (n % 128)) I.wo _ _ ?_ h10
  intro a r n
  refine (ha a r n).trans (congrArg (fun z : ℝ => (z : EReal)) ?_)
  unfold In.att In.wt In.sc In.vf
  simp only [Nat.add_assoc]

end Cert.Mla

end
-- ==== Proof.Run.lean ====
/-
  The run of the idealized kernel: it ends with its result holding what the last boundary of @main holds.
-/
module

public import proofs.«01_k».proof.Proof.Gen.KernelIdeal.Frame

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- From every memory with the counters at zero the idealized kernel terminates; its result array then holds the
    contents at the last boundary of @main and the arguments are as launched. -/
theorem run_kernel : θ_run defs (onTc (τ := τ) (main (F := Ideal))) ⟨m, fun _ => 0, ρ⟩ (fun r => ∀ c : Dev nD,
      r.2.mem ((c.tc : Thread nD τ).loc main_v54) = W9 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨h c _ (mem_uc main_v54 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.Mla

end
-- ==== Proof.Pre.lean ====
/-
  What the precondition says: every argument but the mask and two of the weights is finite, and the mask is zero on and below the diagonal
  and at most -10^9 above it.
-/
module

public import proofs.«01_k».proof.Proof.Base
public import proofs.«01_k».proof.Proof.Gen.Pre_causal_and_finite
public import Idealize.ShloMosaic.Lib.ReduceAll
public import Idealize.ShloMosaic.Lib.WordCmp

@[expose] public section

set_option maxRecDepth 16384

noncomputable section

namespace Cert.Mla

open Idealize.ShloMosaic
open Cert.Pre_causal_and_finite Cert.Pre_causal_and_finite.Gen

/-- A bit made of a truth value is one exactly when the truth value is true. -/
theorem bit_one {b : Bool} : BitVec.ofBool b = 1#1 ↔ b = true := by cases b <;> decide

instance one_index : Subsingleton S_.Idx := ⟨fun a b => funext fun k => k.elim0⟩

/-- An array whose magnitudes are all below plus infinity holds real numbers. -/
theorem all_finite {s : Shape} {axes : List (Fin s.rank)} (A : FVec Ideal s .f32) (hb : S_.BroadcastsInDim s ![]) (hr : s.ReducesTo axes S_) (hu : 0 < S_.numel)
    (j : S_.Idx)
    (e : Host.reduce IntOp.andi (cmpf .olt (Host.absf A) (broadcastInDim s ![] hb (constant (F := Ideal) S_ .f32 0x7F800000#32)))
      (constantI S_ 1 1#1) hr hu j = 1#1) (i : s.Idx) : A i = (((A i : EReal).toReal : ℝ) : EReal) := by
  have h := Host.reduce_andi_all _ _ _ _ j e i
  have h2 : BitVec.ofBool (decide (max (A i : EReal) (-(A i : EReal)) < Ideal.ofBits .f32 0x7F800000#32)) = 1#1 := h
  rw [bit_one, decide_eq_true_eq, ofBits_inf] at h2
  refine (EReal.coe_toReal ?_ ?_).symm
  · intro c
    rw [c] at h2
    simp at h2
  · intro c
    rw [c] at h2
    simp at h2

/-- The mask's half of the precondition. -/
theorem mask_causal (M : FVec Ideal S2048x2048 .f32) (hb : S_.BroadcastsInDim S2048x2048 ![])
    (hr : S2048x2048.ReducesTo [0, 1] S_) (hu : 0 < S_.numel) (j : S_.Idx)
    (e : Host.reduce IntOp.andi (fn_where (F := Ideal) (cmpi .sle (iotaInDim S2048x2048 32 1) (iotaInDim S2048x2048 32 0))
        (cmpf .oeq M (broadcastInDim S2048x2048 ![] hb (constant (F := Ideal) S_ .f32 0x00000000#32)))
        (cmpf .ole M (broadcastInDim S2048x2048 ![] hb (constant (F := Ideal) S_ .f32 0xCE6E6B28#32))))
      (constantI S_ 1 1#1) hr hu j = 1#1) :
    (∀ r t : Fin 2048, t.val ≤ r.val → M (ix2 r t) = 0)
      ∧ ∀ r t : Fin 2048, r.val < t.val → M (ix2 r t) ≤ ((-1000000000 : ℝ) : EReal) := by
  have h : ∀ r t : Fin 2048, (if IntOp.cmpi .sle (BitVec.ofNat 32 t.val) (BitVec.ofNat 32 r.val) = 1#1
      then BitVec.ofBool (decide (M (ix2 r t) = Ideal.ofBits .f32 0x00000000#32))
      else BitVec.ofBool (decide (M (ix2 r t) ≤ Ideal.ofBits .f32 0xCE6E6B28#32))) = 1#1 :=
    fun r t => Host.reduce_andi_all _ _ _ _ j e (ix2 r t)
  have c : ∀ r t : Fin 2048, IntOp.cmpi .sle (BitVec.ofNat 32 t.val) (BitVec.ofNat 32 r.val) = 1#1 ↔ t.val ≤ r.val := by
    intro r t
    have hr := r.isLt
    have ht := t.isLt
    rw [IntOp.cmpi_sle, WordCmp.toInt_ofNat_of_lt (by simp; omega), WordCmp.toInt_ofNat_of_lt (by simp; omega)]
    omega
  constructor
  · intro r t hle
    have h1 := h r t
    rw [if_pos ((c r t).mpr hle), bit_one, decide_eq_true_eq] at h1
    rw [h1]
    simp [Ideal.ofBits, Ideal.ieee]
  · intro r t hlt
    have h1 := h r t
    have h2 : ¬ IntOp.cmpi .sle (BitVec.ofNat 32 t.val) (BitVec.ofNat 32 r.val) = 1#1 := fun k => by have := (c r t).mp k; omega
    rw [if_neg h2, bit_one, decide_eq_true_eq, ofBits_neg_1e9] at h1
    exact h1

/-- The precondition unpacked. -/
theorem pre_unpack (a0 : FVec Ideal S1x2048x2048 .f32) (a1 a2 : FVec Ideal S2048x32 .f32) (a3 : FVec Ideal S2048x2048 .f32)
    (a4 : FVec Ideal S1536x2048 .f32) (a5 : FVec Ideal S1536 .f32) (a6 : FVec Ideal S3072x1536 .f32) (a7 : FVec Ideal S576x2048 .f32)
    (a8 : FVec Ideal S512 .f32) (a9 : FVec Ideal S4096x512 .f32) (a10 : FVec Ideal S2048x2048 .f32)
    (h : Cert.Pre_causal_and_finite.fn (F := Ideal) a0 a1 a2 a3 a4 a5 a6 a7 a8 a9 a10 = fun _ => 1#1) :
    (∀ i, a0 i = (((a0 i : EReal).toReal : ℝ) : EReal)) ∧ (∀ i, a1 i = (((a1 i : EReal).toReal : ℝ) : EReal))
      ∧ (∀ i, a2 i = (((a2 i : EReal).toReal : ℝ) : EReal))
      ∧ (∀ i, a5 i = (((a5 i : EReal).toReal : ℝ) : EReal)) ∧ (∀ i, a6 i = (((a6 i : EReal).toReal : ℝ) : EReal))
      ∧ (∀ i, a7 i = (((a7 i : EReal).toReal : ℝ) : EReal)) ∧ (∀ i, a8 i = (((a8 i : EReal).toReal : ℝ) : EReal))
      ∧ (∀ i, a9 i = (((a9 i : EReal).toReal : ℝ) : EReal))
      ∧ (∀ r t : Fin 2048, t.val ≤ r.val → a3 (ix2 r t) = 0)
      ∧ ∀ r t : Fin 2048, r.val < t.val → a3 (ix2 r t) ≤ ((-1000000000 : ℝ) : EReal) := by
  have e := congrFun h ix0
  dsimp only [fn, fn_part1, fn_part2] at e
  have split : ∀ (p q : IVec S_ 1) (j : S_.Idx), andi p q j = 1#1 → p j = 1#1 ∧ q j = 1#1 :=
    fun p q j k => IntOp.andi_eq_one.mp k
  obtain ⟨e, h9⟩ := split _ _ _ e
  obtain ⟨e, h8⟩ := split _ _ _ e
  obtain ⟨e, h7⟩ := split _ _ _ e
  obtain ⟨e, h6⟩ := split _ _ _ e
  obtain ⟨e, h5⟩ := split _ _ _ e
  obtain ⟨e, h3⟩ := split _ _ _ e
  obtain ⟨e, h2⟩ := split _ _ _ e
  obtain ⟨h0, h1⟩ := split _ _ _ e
  exact ⟨all_finite a0 _ _ _ _ h0, all_finite a1 _ _ _ _ h1, all_finite a2 _ _ _ _ h2,
    all_finite a5 _ _ _ _ h5, all_finite a6 _ _ _ _ h6, all_finite a7 _ _ _ _ h7, all_finite a8 _ _ _ _ h8,
    all_finite a9 _ _ _ _ h9, mask_causal a3 _ _ _ _ h3⟩

end Cert.Mla

end
-- ==== Proof.Value.lean ====
/-
  The value claim: under the precondition the idealized kernel and the reference leave the same result array.
-/
module

public import proofs.«01_k».proof.Defs
public import proofs.«01_k».proof.Proof.KernelVal
public import proofs.«01_k».proof.Proof.RefVal
public import proofs.«01_k».proof.Proof.Run
public import proofs.«01_k».proof.Proof.Pre
public import proofs.«01_k».proof.Proof.Gen.ReferenceIdeal.Run

@[expose] public section

set_option maxRecDepth 16384

noncomputable section

namespace Cert.Mla

open Idealize.ShloMosaic Idealize.ShloMosaic.TcCoe Idealize.SL.Sem

/-- The real number a one-axis array holds at `i`, and 0 outside the array. -/
def read1 {n0 : ℕ} (A : (⟨1, ![n0]⟩ : Shape).Idx → EReal) (i : ℕ) : ℝ :=
  if h : i < n0 then (A (ix1 ⟨i, h⟩)).toReal else 0

/-- The real number a two-axis array holds at `(i, j)`, and 0 outside the array. -/
def read2 {n0 n1 : ℕ} (A : (⟨2, ![n0, n1]⟩ : Shape).Idx → EReal) (i j : ℕ) : ℝ :=
  if h : i < n0 ∧ j < n1 then (A (ix2 ⟨i, h.1⟩ ⟨j, h.2⟩)).toReal else 0

/-- The extended real a two-axis array holds at `(i, j)`, and 0 outside the array. -/
def take2 {n0 n1 : ℕ} (A : (⟨2, ![n0, n1]⟩ : Shape).Idx → EReal) (i j : ℕ) : EReal :=
  if h : i < n0 ∧ j < n1 then A (ix2 ⟨i, h.1⟩ ⟨j, h.2⟩) else 0

/-- The real number a three-axis array holds at `(i, j, k)`, and 0 outside the array. -/
def read3 {n0 n1 n2 : ℕ} (A : (⟨3, ![n0, n1, n2]⟩ : Shape).Idx → EReal) (i j k : ℕ) : ℝ :=
  if h : i < n0 ∧ j < n1 ∧ k < n2 then (A (ix3 ⟨i, h.1⟩ ⟨j, h.2.1⟩ ⟨k, h.2.2⟩)).toReal else 0

/-- A one-axis array of real numbers holds what is read from it. -/
theorem read1_is {n0 : ℕ} (A : (⟨1, ![n0]⟩ : Shape).Idx → EReal) (h : ∀ i, A i = ((A i).toReal : EReal)) : Is1 A (read1 A) := by
  intro i
  unfold read1
  rw [dif_pos i.isLt]
  exact h _

/-- A two-axis array of real numbers holds what is read from it. -/
theorem read2_is {n0 n1 : ℕ} (A : (⟨2, ![n0, n1]⟩ : Shape).Idx → EReal) (h : ∀ i, A i = ((A i).toReal : EReal)) :
    Is2 A (read2 A) := by
  intro i j
  unfold read2
  rw [dif_pos ⟨i.isLt, j.isLt⟩]
  exact h _

/-- A two-axis array holds what is taken from it. -/
theorem take2_is {n0 n1 : ℕ} (A : (⟨2, ![n0, n1]⟩ : Shape).Idx → EReal) : Val2 A (take2 A) := by
  intro i j
  unfold take2
  rw [dif_pos ⟨i.isLt, j.isLt⟩]

/-- A three-axis array of real numbers with one leading index holds what is read from it. -/
theorem read3_is {n1 n2 : ℕ} (A : (⟨3, ![1, n1, n2]⟩ : Shape).Idx → EReal) (h : ∀ i, A i = ((A i).toReal : EReal)) :
    Is3 A (fun _ => read3 A 0) := by
  intro i j k
  obtain rfl : i = 0 := Subsingleton.elim _ _
  unfold read3
  beta_reduce
  rw [dif_pos ⟨by decide, j.isLt, k.isLt⟩]
  exact h _

/-- Two arrays with one leading index that hold the same numbers are equal. -/
theorem val3_unique {n1 n2 : ℕ} {A B : (⟨3, ![1, n1, n2]⟩ : Shape).Idx → EReal} {f : ℕ → ℕ → ℕ → EReal} (hA : Val3 A f) (hB : Val3 B f) :
    A = B := by
  funext i
  have e : i = ix3 (n0 := 1) (n1 := n1) (n2 := n2) (i 0) (i 1) (i 2) := eq_ix3 i
  rw [e, hA (i 0) (i 1) (i 2), hB (i 0) (i 1) (i 2)]

section

variable (m : (ℓ : Loc Cert.KernelIdeal.nD Cert.KernelIdeal.τ Cert.KernelIdeal.sig) → Buf (Elt Ideal) ℓ) (c : Dev Cert.KernelIdeal.nD)

/-- The layer's inputs as the kernel's memory holds them. -/
def inputs : In where
  x := read3 (n0 := 1) (n1 := 2048) (n2 := 2048) (m ((c.tc : Thread Cert.KernelIdeal.nD Cert.KernelIdeal.τ).loc Cert.KernelIdeal.main_arg0)) 0
  cos := read2 (n0 := 2048) (n1 := 32) (m ((c.tc : Thread Cert.KernelIdeal.nD Cert.KernelIdeal.τ).loc Cert.KernelIdeal.main_arg1))
  sin := read2 (n0 := 2048) (n1 := 32) (m ((c.tc : Thread Cert.KernelIdeal.nD Cert.KernelIdeal.τ).loc Cert.KernelIdeal.main_arg2))
  wqa := take2 (n0 := 1536) (n1 := 2048) (m ((c.tc : Thread Cert.KernelIdeal.nD Cert.KernelIdeal.τ).loc Cert.KernelIdeal.main_arg4))
  gqa := read1 (n0 := 1536) (m ((c.tc : Thread Cert.KernelIdeal.nD Cert.KernelIdeal.τ).loc Cert.KernelIdeal.main_arg5))
  wqb := read2 (n0 := 3072) (n1 := 1536) (m ((c.tc : Thread Cert.KernelIdeal.nD Cert.KernelIdeal.τ).loc Cert.KernelIdeal.main_arg6))
  wkva := read2 (n0 := 576) (n1 := 2048) (m ((c.tc : Thread Cert.KernelIdeal.nD Cert.KernelIdeal.τ).loc Cert.KernelIdeal.main_arg7))
  gkv := read1 (n0 := 512) (m ((c.tc : Thread Cert.KernelIdeal.nD Cert.KernelIdeal.τ).loc Cert.KernelIdeal.main_arg8))
  wkvb := read2 (n0 := 4096) (n1 := 512) (m ((c.tc : Thread Cert.KernelIdeal.nD Cert.KernelIdeal.τ).loc Cert.KernelIdeal.main_arg9))
  wo := take2 (n0 := 2048) (n1 := 2048) (m ((c.tc : Thread Cert.KernelIdeal.nD Cert.KernelIdeal.τ).loc Cert.KernelIdeal.main_arg10))

end

/-- The idealized kernel and the reference compute the same array, under the precondition. -/
theorem same_value : Cert.algebraic_KernelIdeal_ReferenceIdeal_pre_causal_and_finite := by
  intro m g m' g' hpre hargs
  have hk := fun c : Dev Cert.KernelIdeal.nD => pre_unpack _ _ _ _ _ _ _ _ _ _ _ (hpre c)
  have hin : ∀ c : Dev Cert.KernelIdeal.nD, Holds m c (inputs m c) := fun c => by
    obtain ⟨k0, k1, k2, k5, k6, k7, k8, k9, _, _⟩ := hk c
    exact ⟨read3_is _ k0, read2_is _ k1, read2_is _ k2, take2_is _, read1_is _ k5, read2_is _ k6, read2_is _ k7, read1_is _ k8,
      read2_is _ k9, take2_is _⟩
  refine ⟨fun c => Cert.KernelIdeal.Gen.W9 m g c (Proc.devRef .tc Cert.KernelIdeal.main_v54), run_kernel m g, ?_⟩
  refine (θ_run Cert.ReferenceIdeal.defs _ _).mono (fun r h c => ⟨(h c).1.trans ?_, (h c).2⟩) (Cert.ReferenceIdeal.Value.run (F := Ideal) m' g')
  obtain ⟨_, _, _, _, _, _, _, _, kc, kn⟩ := hk c
  obtain ⟨e0, e1, e2, e3, e4, e5, e6, e7, e8, e9, e10⟩ := hargs c
  have H := hin c
  rw [ref_stages m' c, e0, e1, e2, e3, e4, e5, e6, e7, e8, e9, e10]
  exact val3_unique (ref_val (inputs m c) _ _ _ _ _ _ _ _ _ _ _ H.h0 H.h1 H.h2 kc kn H.h4 H.h5 H.h6 H.h7 H.h8 H.h9 H.h10)
    (kernel_val H)

end Cert.Mla

end
-- ==== Proof.lean ====
module

public import proofs.«01_k».proof.Defs
public import proofs.«01_k».proof.Proof.Frames
public import proofs.«01_k».proof.Proof.Value
public import proofs.«01_k».proof.Proof.Gen.Pre_causal_and_finite
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Pre_causal_and_finite.Gen.facts,
    frame_kernel, frame_kernel_ideal, fun m ρ _ => frame_kernel_ideal m ρ trivial,
    frame_reference, fun m ρ _ => frame_reference m ρ trivial, preserves_kernel, Cert.Mla.same_value⟩

end Cert.Proof

end
